-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x4096 : Shape := ⟨2, ![4096, 4096]⟩
abbrev S3 : Shape := ⟨1, ![3]⟩
abbrev S_ : Shape := ⟨0, ![]⟩
abbrev S1 : Shape := ⟨1, ![1]⟩
abbrev S512x4096 : Shape := ⟨2, ![512, 4096]⟩
abbrev S1x1 : Shape := ⟨2, ![1, 1]⟩
abbrev S256x4096 : Shape := ⟨2, ![256, 4096]⟩
abbrev S4096x1024 : Shape := ⟨2, ![4096, 1024]⟩
abbrev S256x1024 : Shape := ⟨2, ![256, 1024]⟩
abbrev S1x256x1024 : Shape := ⟨3, ![1, 256, 1024]⟩
abbrev S1x1x1 : Shape := ⟨3, ![1, 1, 1]⟩
abbrev S512x2048 : Shape := ⟨2, ![512, 2048]⟩
abbrev S4x8x128 : Shape := ⟨3, ![4, 8, 128]⟩
abbrev S8x128 : Shape := ⟨2, ![8, 128]⟩
abbrev S4 : Shape := ⟨1, ![4]⟩
abbrev S2 : Shape := ⟨1, ![2]⟩
abbrev S1x8x128 : Shape := ⟨3, ![1, 8, 128]⟩
abbrev S4x1x128 : Shape := ⟨3, ![4, 1, 128]⟩
abbrev S4x128 : Shape := ⟨2, ![4, 128]⟩
abbrev S1x4x128 : Shape := ⟨3, ![1, 4, 128]⟩

abbrev nBuf : Space → Nat
  | .hbm => 6
  | .vmem => 14
  | .smem => 2
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x4096, .f32⟩
  | .hbm, ⟨3, _⟩ => ⟨S4096x2048, .f32⟩
  | .hbm, ⟨4, _⟩ => ⟨S1x1, .f32⟩
  | .hbm, ⟨5, _⟩ => ⟨S4096x2048, .f32⟩
  | .local _ .vmem, ⟨0, _⟩ => ⟨S256x4096, .f32⟩
  | .local _ .vmem, ⟨1, _⟩ => ⟨S256x4096, .f32⟩
  | .local _ .vmem, ⟨2, _⟩ => ⟨S4096x1024, .f32⟩
  | .local _ .vmem, ⟨3, _⟩ => ⟨S4096x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | .local _ .vmem, ⟨7, _⟩ => ⟨S1x1, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S4x8x128, .f32⟩
  | .local _ .vmem, ⟨13, _⟩ => ⟨S8x128, .f32⟩
  | .local _ .smem, ⟨0, _⟩ => ⟨S1, .f32⟩
  | .local _ .smem, ⟨1, _⟩ => ⟨S2, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 3 → Bool
  | ⟨0, _⟩ => false
  | ⟨1, _⟩ => true
  | ⟨2, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 3 32 bufScoped semScoped dmaSemScoped tileCredit tileCredit_eq_zero tileCredit_pos).withBarriers [(0, 0), (1, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_scratch0 : Ref sig .tc := ⟨.vmem, 12, rfl⟩
abbrev cc2_scratch1 : Ref sig .tc := ⟨.vmem, 13, rfl⟩
abbrev cc1_scratch0 : Ref sig .tc := ⟨.smem, 0, rfl⟩
abbrev cc2_scratch5 : Ref sig .tc := ⟨.smem, 1, rfl⟩
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc2_sem0_0 : DmaSem sig := 20
abbrev cc2_sem1_0 : DmaSem sig := 21
abbrev cc2_sem1_1 : DmaSem sig := 22
abbrev cc2_sem2_0 : DmaSem sig := 23
abbrev cc2_sem2_1 : DmaSem sig := 24
abbrev barrier0 : Sem sig := 0
abbrev barrier1 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let c0_i32_10 : BitVec 32 := 0#32
  ![v13.toNat, 0]
def k0_off2 (d0 : Dev nD) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.subi v2 c0_i32_11
  let c4_i32_12 : BitVec 32 := 4#32
  let v16 : BitVec 32 := Scalar.addi v15 c4_i32_12
  let c4_i32_13 : BitVec 32 := 4#32
  let v17 : BitVec 32 := Scalar.remsi v16 c4_i32_13
  let c1024_i32_16 : BitVec 32 := 1024#32
  let v20 : BitVec 32 := Scalar.muli v17 c1024_i32_16
  let c0_i32_22 : BitVec 32 := 0#32
  ![v20.toNat, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_20 : BitVec 32 := 1#32
  let v23 : BitVec 32 := Scalar.muli v4 c1_i32_20
  let v24 : BitVec 32 := Scalar.addi c0_i32_21 v23
  v24.toNat
def k0_off3 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v18 : BitVec 32 := Scalar.addi v2 c0_i32_14
  let c4_i32_15 : BitVec 32 := 4#32
  let v19 : BitVec 32 := Scalar.remsi v18 c4_i32_15
  let c1024_i32_17 : BitVec 32 := 1024#32
  let v21 : BitVec 32 := Scalar.muli v19 c1024_i32_17
  let c512_i32 : BitVec 32 := 512#32
  let v22 : BitVec 32 := Scalar.addi v21 c512_i32
  let c0_i32_29 : BitVec 32 := 0#32
  ![v22.toNat, 0]
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_27 : BitVec 32 := 1#32
  let v31 : BitVec 32 := Scalar.muli v7 c1_i32_27
  let v32 : BitVec 32 := Scalar.addi c0_i32_28 v31
  v32.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_71 : BitVec 32 := 1#32
  let v70 : BitVec 32 := Scalar.muli v4 c1_i32_71
  let v71 : BitVec 32 := Scalar.addi c0_i32_72 v70
  v71.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_77 : BitVec 32 := 1#32
  let v78 : BitVec 32 := Scalar.muli v7 c1_i32_77
  let v79 : BitVec 32 := Scalar.addi c0_i32_78 v78
  v79.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_116 : BitVec 32 := 1#32
  let v117 : BitVec 32 := Scalar.muli v4 c1_i32_116
  let v118 : BitVec 32 := Scalar.addi c0_i32_117 v117
  v118.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_122 : BitVec 32 := 1#32
  let v125 : BitVec 32 := Scalar.muli v7 c1_i32_122
  let v126 : BitVec 32 := Scalar.addi c0_i32_123 v125
  v126.toNat
abbrev grid1 : Pipeline.Grid := ⟨2, ![2, 16], ![false, false]⟩

def k1_cond2 (i : grid1.Coords) : BitVec 1 :=
  let arg0 : BitVec 32 := BitVec.ofNat 32 (i 0).val
  let c1_i32 : BitVec 32 := 1#32
  let v20 : BitVec 1 := Scalar.cmpi .eq arg0 c1_i32
  let arg1 : BitVec 32 := BitVec.ofNat 32 (i 1).val
  let c15_i32 : BitVec 32 := 15#32
  let v21 : BitVec 1 := Scalar.cmpi .eq arg1 c15_i32
  let v22 : BitVec 1 := Scalar.andi v20 v21
  let v23 : BitVec 32 := Scalar.extui v22
  let c0_i32_11 : BitVec 32 := 0#32
  let v24 : BitVec 1 := Scalar.cmpi .ne v23 c0_i32_11
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_dev1 (d14 : Dev nD) : Nat :=
  let c0_i32_9 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c1_i32_5 : BitVec 32 := 1#32
  let v18 : BitVec 32 := Scalar.addi v16 c1_i32_5
  let c4_i32_6 : BitVec 32 := 4#32
  let v19 : BitVec 32 := Scalar.remsi v18 c4_i32_6
  let c1_i32_8 : BitVec 32 := 1#32
  let v20 : BitVec 32 := Scalar.muli v19 c1_i32_8
  let v21 : BitVec 32 := Scalar.addi c0_i32_9 v20
  v21.toNat
def k2_dev2 (d14 : Dev nD) : Nat :=
  let c0_i32_13 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c2_i32 : BitVec 32 := 2#32
  let v22 : BitVec 32 := Scalar.addi v16 c2_i32
  let c4_i32_10 : BitVec 32 := 4#32
  let v23 : BitVec 32 := Scalar.remsi v22 c4_i32_10
  let c1_i32_12 : BitVec 32 := 1#32
  let v24 : BitVec 32 := Scalar.muli v23 c1_i32_12
  let v25 : BitVec 32 := Scalar.addi c0_i32_13 v24
  v25.toNat
def k2_dev3 (d14 : Dev nD) : Nat :=
  let c0_i32_17 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c3_i32 : BitVec 32 := 3#32
  let v26 : BitVec 32 := Scalar.addi v16 c3_i32
  let c4_i32_14 : BitVec 32 := 4#32
  let v27 : BitVec 32 := Scalar.remsi v26 c4_i32_14
  let c1_i32_16 : BitVec 32 := 1#32
  let v28 : BitVec 32 := Scalar.muli v27 c1_i32_16
  let v29 : BitVec 32 := Scalar.addi c0_i32_17 v28
  v29.toNat
def k2_off1 (d14 : Dev nD) : Fin 1 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  ![v16.toNat]
def k2_off2 (d14 : Dev nD) : Fin 3 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c0_i32_28 : BitVec 32 := 0#32
  let c0_i32_29 : BitVec 32 := 0#32
  ![v16.toNat, 0, 0]
def k2_dev4 (d14 : Dev nD) : Nat :=
  let c0_i32_27 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c1_i32_23 : BitVec 32 := 1#32
  let v36 : BitVec 32 := Scalar.addi v16 c1_i32_23
  let c4_i32_24 : BitVec 32 := 4#32
  let v37 : BitVec 32 := Scalar.remsi v36 c4_i32_24
  let c1_i32_26 : BitVec 32 := 1#32
  let v38 : BitVec 32 := Scalar.muli v37 c1_i32_26
  let v39 : BitVec 32 := Scalar.addi c0_i32_27 v38
  v39.toNat
def k2_dev5 (d14 : Dev nD) : Nat :=
  let c0_i32_34 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c2_i32_30 : BitVec 32 := 2#32
  let v46 : BitVec 32 := Scalar.addi v16 c2_i32_30
  let c4_i32_31 : BitVec 32 := 4#32
  let v47 : BitVec 32 := Scalar.remsi v46 c4_i32_31
  let c1_i32_33 : BitVec 32 := 1#32
  let v48 : BitVec 32 := Scalar.muli v47 c1_i32_33
  let v49 : BitVec 32 := Scalar.addi c0_i32_34 v48
  v49.toNat
def k2_dev6 (d14 : Dev nD) : Nat :=
  let c0_i32_41 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c3_i32_37 : BitVec 32 := 3#32
  let v56 : BitVec 32 := Scalar.addi v16 c3_i32_37
  let c4_i32_38 : BitVec 32 := 4#32
  let v57 : BitVec 32 := Scalar.remsi v56 c4_i32_38
  let c1_i32_40 : BitVec 32 := 1#32
  let v58 : BitVec 32 := Scalar.muli v57 c1_i32_40
  let v59 : BitVec 32 := Scalar.addi c0_i32_41 v58
  v59.toNat
def k2_off3 (d14 : Dev nD) (c1_i32_44 : BitVec 32) : Fin 1 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let v66 : BitVec 32 := Scalar.addi v16 c1_i32_44
  let c4_i32_45 : BitVec 32 := 4#32
  let v67 : BitVec 32 := Scalar.remsi v66 c4_i32_45
  ![v67.toNat]
def k2_off4 (d14 : Dev nD) (c1_i32_44 : BitVec 32) : Fin 3 → Nat :=
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let v66 : BitVec 32 := Scalar.addi v16 c1_i32_44
  let c4_i32_45 : BitVec 32 := 4#32
  let v67 : BitVec 32 := Scalar.remsi v66 c4_i32_45
  let c0_i32_49 : BitVec 32 := 0#32
  let c0_i32_50 : BitVec 32 := 0#32
  ![v67.toNat, 0, 0]
def k2_dev7 (d14 : Dev nD) : Nat :=
  let c0_i32_89 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c1_i32_85 : BitVec 32 := 1#32
  let v118 : BitVec 32 := Scalar.addi v16 c1_i32_85
  let c4_i32_86 : BitVec 32 := 4#32
  let v119 : BitVec 32 := Scalar.remsi v118 c4_i32_86
  let c1_i32_88 : BitVec 32 := 1#32
  let v120 : BitVec 32 := Scalar.muli v119 c1_i32_88
  let v121 : BitVec 32 := Scalar.addi c0_i32_89 v120
  v121.toNat
def k2_dev8 (d14 : Dev nD) : Nat :=
  let c0_i32_94 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c2_i32_90 : BitVec 32 := 2#32
  let v122 : BitVec 32 := Scalar.addi v16 c2_i32_90
  let c4_i32_91 : BitVec 32 := 4#32
  let v123 : BitVec 32 := Scalar.remsi v122 c4_i32_91
  let c1_i32_93 : BitVec 32 := 1#32
  let v124 : BitVec 32 := Scalar.muli v123 c1_i32_93
  let v125 : BitVec 32 := Scalar.addi c0_i32_94 v124
  v125.toNat
def k2_dev9 (d14 : Dev nD) : Nat :=
  let c0_i32_99 : BitVec 32 := 0#32
  let v14 : BitVec 32 := Dev.word d14
  let c1_i32 : BitVec 32 := 1#32
  let v15 : BitVec 32 := Scalar.divsi v14 c1_i32
  let c4_i32 : BitVec 32 := 4#32
  let v16 : BitVec 32 := Scalar.remsi v15 c4_i32
  let c3_i32_95 : BitVec 32 := 3#32
  let v126 : BitVec 32 := Scalar.addi v16 c3_i32_95
  let c4_i32_96 : BitVec 32 := 4#32
  let v127 : BitVec 32 := Scalar.remsi v126 c4_i32_96
  let c1_i32_98 : BitVec 32 := 1#32
  let v128 : BitVec 32 := Scalar.muli v127 c1_i32_98
  let v129 : BitVec 32 := Scalar.addi c0_i32_99 v128
  v129.toNat
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩
abbrev S1x1 : Shape := ⟨2, ![1, 1]⟩

abbrev nBuf : Space → Nat
  | .hbm => 13
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S4096x8192, .f32⟩
  | .local _ .vmem, ⟨0, _⟩ => ⟨S4096x8192, .f32⟩
  | .local _ .vmem, ⟨1, _⟩ => ⟨S1x1, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Places.lean ====
/-
  Call 0 (the all-gather): the places it works on. The gathered array is four blocks of 1024 rows, one per device; each block is two halves of 512
  rows, the LOW half travelling one way round the ring and the HIGH half the other way. Here are the devices' neighbours, the halves as memrefs and as
  sets of elements, how the whole arrays split into them, and the one value `gath` that every device's gathered array ends at.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.TalkSched
public import Idealize.ShloMosaic.Lib.Pipeline.RegionTalk
public import Idealize.ShloMosaic.Lib.Tactic

@[expose] public section

noncomputable section

namespace Cert.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring -/

/-- The device k places further round the ring of four. -/
abbrev rot (k : ℕ) (c : Dev nD) : Dev nD := ⟨(c.val + k) % 4, Nat.mod_lt _ (by decide)⟩

theorem rot_rot (j k : ℕ) (c : Dev nD) : rot j (rot k c) = rot (k + j) c := Fin.ext (by show ((c.val + k) % 4 + j) % 4 = (c.val + (k + j)) % 4; omega)
theorem rot_mod (k : ℕ) (c : Dev nD) : rot (k % 4) c = rot k c := Fin.ext (by show (c.val + k % 4) % 4 = (c.val + k) % 4; omega)
theorem rot4 (c : Dev nD) : rot 4 c = c := Fin.ext (by have := c.isLt; show (c.val + 4) % 4 = c.val; have h : c.val < 4 := c.isLt; omega)

/-! ## The halves of the gathered array -/

/-- The low half of device d's block of the gathered array. -/
abbrev loM (d : Dev nD) : Memref sig .tc .hbm S512x4096 .f32 :=
  (Memref.whole main_v1).slice (Rect.unit (s := S4096x4096) (k0_off2 d 0#32) S512x4096.size (k0_off2_inb d 0)) (fun _ => rfl)
/-- The high half. -/
abbrev hiM (d : Dev nD) : Memref sig .tc .hbm S512x4096 .f32 :=
  (Memref.whole main_v1).slice (Rect.unit (s := S4096x4096) (k0_off3 d 0#32) S512x4096.size (k0_off3_inb d 0)) (fun _ => rfl)
/-- The block. -/
abbrev blkM (d : Dev nD) : Memref sig .tc .hbm S1024x4096 .f32 :=
  (Memref.whole main_v1).slice (Rect.unit (s := S4096x4096) (k0_off1 d) S1024x4096.size (k0_off1_inb d)) (fun _ => rfl)
/-- The low half of a device's own rows of `x`. -/
abbrev xloM : Memref sig .tc .hbm S512x4096 .f32 :=
  (Memref.whole main_arg0).slice (Rect.unit (s := S1024x4096) ![0, 0] S512x4096.size inb_S1024x4096_S512x4096_0_0) (fun _ => rfl)
/-- The high half. -/
abbrev xhiM : Memref sig .tc .hbm S512x4096 .f32 :=
  (Memref.whole main_arg0).slice (Rect.unit (s := S1024x4096) ![512, 0] S512x4096.size inb_S1024x4096_S512x4096_512_0) (fun _ => rfl)

/-- A slice depends on its offsets only. -/
theorem slice_off {κ : Kind} {sp : Space} {s : Shape} {e : EltTy} (v : Memref sig κ sp s e) {o o' : Fin s.rank → ℕ} (h : o = o') (sz : Fin s.rank → ℕ) (i : ∀ a, o a + sz a ≤ s.size a)
    (i' : ∀ a, o' a + sz a ≤ s.size a) (p : ∀ a, (Rect.unit (s := s) o sz i).stride a = 1) (p' : ∀ a, (Rect.unit (s := s) o' sz i').stride a = 1) :
    v.slice (Rect.unit (s := s) o sz i) p = v.slice (Rect.unit (s := s) o' sz i') p' := by subst h; rfl

theorem off2_1 : ∀ d : Dev nD, k0_off2 d 1#32 = k0_off2 (rot 3 d) 0#32 := by decide +kernel
theorem off2_2 : ∀ d : Dev nD, k0_off2 d 2#32 = k0_off2 (rot 2 d) 0#32 := by decide +kernel
theorem off3_1 : ∀ d : Dev nD, k0_off3 d 1#32 = k0_off3 (rot 1 d) 0#32 := by decide +kernel
theorem off3_2 : ∀ d : Dev nD, k0_off3 d 2#32 = k0_off3 (rot 2 d) 0#32 := by decide +kernel

theorem lo_1 (d : Dev nD) : (Memref.whole main_v1).slice (Rect.unit (s := S4096x4096) (k0_off2 d 1#32) S512x4096.size (k0_off2_inb d 1)) (fun _ => rfl) = loM (rot 3 d) :=
  slice_off _ (off2_1 d) _ _ _ _ _
theorem lo_2 (d : Dev nD) : (Memref.whole main_v1).slice (Rect.unit (s := S4096x4096) (k0_off2 d 2#32) S512x4096.size (k0_off2_inb d 2)) (fun _ => rfl) = loM (rot 2 d) :=
  slice_off _ (off2_2 d) _ _ _ _ _
theorem hi_1 (d : Dev nD) : (Memref.whole main_v1).slice (Rect.unit (s := S4096x4096) (k0_off3 d 1#32) S512x4096.size (k0_off3_inb d 1)) (fun _ => rfl) = hiM (rot 1 d) :=
  slice_off _ (off3_1 d) _ _ _ _ _
theorem hi_2 (d : Dev nD) : (Memref.whole main_v1).slice (Rect.unit (s := S4096x4096) (k0_off3 d 2#32) S512x4096.size (k0_off3_inb d 2)) (fun _ => rfl) = hiM (rot 2 d) :=
  slice_off _ (off3_2 d) _ _ _ _ _

theorem dev0_1 (c : Dev nD) : (⟨k0_dev1 c, k0_dev1_lt c⟩ : Dev nD) = rot 3 c := Fin.ext (k0_dev1_eq c)
theorem dev0_2 (c : Dev nD) : (⟨k0_dev2 c, k0_dev2_lt c⟩ : Dev nD) = rot 1 c := Fin.ext (k0_dev2_eq c)
theorem dev0_3 (c : Dev nD) : (⟨k0_dev3 c, k0_dev3_lt c⟩ : Dev nD) = rot 1 c := Fin.ext (k0_dev3_eq c)
theorem dev0_4 (c : Dev nD) : (⟨k0_dev4 c, k0_dev4_lt c⟩ : Dev nD) = rot 3 c := Fin.ext (k0_dev4_eq c)
theorem dev0_5 (c : Dev nD) : (⟨k0_dev5 c, k0_dev5_lt c⟩ : Dev nD) = rot 1 c := Fin.ext (k0_dev5_eq c)
theorem dev0_6 (c : Dev nD) : (⟨k0_dev6 c, k0_dev6_lt c⟩ : Dev nD) = rot 3 c := Fin.ext (k0_dev6_eq c)
theorem dev0_7 (c : Dev nD) : (⟨k0_dev7 c, k0_dev7_lt c⟩ : Dev nD) = rot 1 c := Fin.ext (k0_dev7_eq c)
theorem dev0_8 (c : Dev nD) : (⟨k0_dev8 c, k0_dev8_lt c⟩ : Dev nD) = rot 3 c := Fin.ext (k0_dev8_eq c)

/-! ## As sets of elements -/

/-- The elements of the gathered array in rows a up to b. -/
def rowsV (a b : ℕ) : Finset S4096x4096.Idx := Finset.univ.filter fun i => a ≤ (i (0 : Fin 2)).val ∧ (i (0 : Fin 2)).val < b
/-- The elements of a device's `x` in rows a up to b. -/
def rowsX (a b : ℕ) : Finset S1024x4096.Idx := Finset.univ.filter fun i => a ≤ (i (0 : Fin 2)).val ∧ (i (0 : Fin 2)).val < b

theorem lo_set (d : Dev nD) : (loM d).view.set = rowsV (1024 * d.val) (1024 * d.val + 512) := by
  refine (View.set_slice_whole main_v1 _).trans (Finset.ext fun i => ?_)
  rw [Rect.mem_set_unit, rowsV, Finset.mem_filter, show k0_off2 d 0#32 = ![1024 * ((d.val + 4 - 0) % 4), 0] from k0_off2_eq d 0]
  have hd : d.val < 4 := d.isLt
  have e : (d.val + 4 - 0) % 4 = d.val := by omega
  rw [e]
  refine ⟨fun h => ⟨Finset.mem_univ _, h 0⟩, fun h a => ?_⟩
  match a with
  | 0 => exact h.2
  | 1 => exact ⟨Nat.zero_le _, (i 1).isLt⟩

theorem hi_set (d : Dev nD) : (hiM d).view.set = rowsV (1024 * d.val + 512) (1024 * d.val + 1024) := by
  refine (View.set_slice_whole main_v1 _).trans (Finset.ext fun i => ?_)
  rw [Rect.mem_set_unit, rowsV, Finset.mem_filter, show k0_off3 d 0#32 = ![1024 * ((d.val + 0) % 4) + 512, 0] from k0_off3_eq d 0]
  have hd : d.val < 4 := d.isLt
  have e : (d.val + 0) % 4 = d.val := by omega
  rw [e]
  refine ⟨fun h => ⟨Finset.mem_univ _, h 0⟩, fun h a => ?_⟩
  match a with
  | 0 => exact h.2
  | 1 => exact ⟨Nat.zero_le _, (i 1).isLt⟩

theorem blk_set (d : Dev nD) : (blkM d).view.set = rowsV (1024 * d.val) (1024 * d.val + 1024) := by
  refine (View.set_slice_whole main_v1 _).trans (Finset.ext fun i => ?_)
  rw [Rect.mem_set_unit, rowsV, Finset.mem_filter, k0_off1_eq d]
  refine ⟨fun h => ⟨Finset.mem_univ _, h 0⟩, fun h a => ?_⟩
  match a with
  | 0 => exact h.2
  | 1 => exact ⟨Nat.zero_le _, (i 1).isLt⟩

theorem xlo_set : xloM.view.set = rowsX 0 512 := by
  refine (View.set_slice_whole main_arg0 _).trans (Finset.ext fun i => ?_)
  rw [Rect.mem_set_unit, rowsX, Finset.mem_filter]
  refine ⟨fun h => ⟨Finset.mem_univ _, h 0⟩, fun h a => ?_⟩
  match a with
  | 0 => exact h.2
  | 1 => exact ⟨Nat.zero_le _, (i 1).isLt⟩

theorem xhi_set : xhiM.view.set = rowsX 512 1024 := by
  refine (View.set_slice_whole main_arg0 _).trans (Finset.ext fun i => ?_)
  rw [Rect.mem_set_unit, rowsX, Finset.mem_filter]
  refine ⟨fun h => ⟨Finset.mem_univ _, h 0⟩, fun h a => ?_⟩
  match a with
  | 0 => exact h.2
  | 1 => exact ⟨Nat.zero_le _, (i 1).isLt⟩

theorem rowsV_disjoint {a b a' b' : ℕ} (h : b ≤ a' ∨ b' ≤ a) : Disjoint (rowsV a b) (rowsV a' b') :=
  Finset.disjoint_left.mpr fun i hi hj => by
    have h1 := (Finset.mem_filter.mp hi).2
    have h2 := (Finset.mem_filter.mp hj).2
    omega
theorem rowsX_disjoint {a b a' b' : ℕ} (h : b ≤ a' ∨ b' ≤ a) : Disjoint (rowsX a b) (rowsX a' b') :=
  Finset.disjoint_left.mpr fun i hi hj => by
    have h1 := (Finset.mem_filter.mp hi).2
    have h2 := (Finset.mem_filter.mp hj).2
    omega

/-- A block is its two halves. -/
theorem rowsV_halves (a b e : ℕ) (h : a ≤ b) (h' : b ≤ e) : rowsV a e = rowsV a b ∪ rowsV b e := by
  ext i
  simp only [rowsV, Finset.mem_union, Finset.mem_filter, Finset.mem_univ, true_and]
  omega
theorem rowsX_halves : (Finset.univ : Finset S1024x4096.Idx) = rowsX 0 512 ∪ rowsX 512 1024 := by
  ext i
  have : (i (0 : Fin 2)).val < 1024 := (i (0 : Fin 2)).isLt
  simp only [rowsX, Finset.mem_union, Finset.mem_filter, Finset.mem_univ, true_and, true_iff]
  omega

/-- The whole gathered array is the four blocks. -/
theorem rowsV_blocks : (Finset.univ : Finset S4096x4096.Idx) = (Finset.univ : Finset (Dev nD)).biUnion fun d => rowsV (1024 * d.val) (1024 * d.val + 1024) := by
  ext i
  have : (i (0 : Fin 2)).val < 4096 := (i (0 : Fin 2)).isLt
  simp only [rowsV, Finset.mem_biUnion, Finset.mem_filter, Finset.mem_univ, true_and, true_iff]
  exact ⟨⟨(i (0 : Fin 2)).val / 1024, by show _ / 1024 < 4; omega⟩, by dsimp only; omega, by dsimp only; omega⟩

/-! ## What is gathered -/

variable (m : (ℓ : Loc nD τ sig) → Buf (Elt F) ℓ)

/-- The device whose rows row i of the gathered array is among. -/
def rowDev (i : S4096x4096.Idx) : Dev nD := ⟨(i (0 : Fin 2)).val / 1024, by have : (i (0 : Fin 2)).val < 4096 := (i (0 : Fin 2)).isLt; show _ < 4; omega⟩
/-- Where in that device's `x` it is. -/
def rowIdx (i : S4096x4096.Idx) : S1024x4096.Idx := fun a =>
  match a with
  | 0 => ⟨(i (0 : Fin 2)).val % 1024, Nat.mod_lt _ (by decide)⟩
  | 1 => ⟨(i (1 : Fin 2)).val, (i (1 : Fin 2)).isLt⟩

/-- The device's `x` as launched. -/
def xOf (d : Dev nD) : S1024x4096.Idx → Elt F .f32 := m ((d.tc : Thread nD τ).loc main_arg0)
/-- The gathered array: row i is row i mod 1024 of the `x` of device i / 1024. -/
def gath : S4096x4096.Idx → Elt F .f32 := fun i => xOf m (rowDev i) (rowIdx i)

/-- Two contents that a view reads alike agree on its elements. -/
theorem eq_on_of_read {Val : EltTy → Type} {κ : Kind} {sp : Space} {s : Shape} {e : EltTy} (v : View sig κ sp s e) {f g : v.ty.Contents Val}
    (h : v.read Val f = v.read Val g) : ∀ i ∈ v.set, f i = g i := by
  intro i hi
  obtain ⟨x, -, rfl⟩ := Finset.mem_map.mp hi
  have := congrFun h x
  simp only [View.read] at this
  exact (cast_inj _).mp this

theorem gath_at (d : Dev nD) (i : S4096x4096.Idx) (j : S1024x4096.Idx) (h0 : (i (0 : Fin 2)).val = 1024 * d.val + (j (0 : Fin 2)).val) (h1 : (i (1 : Fin 2)).val = (j (1 : Fin 2)).val) :
    gath m i = xOf m d j := by
  have hj : (j (0 : Fin 2)).val < 1024 := (j (0 : Fin 2)).isLt
  have e1 : rowDev i = d := Fin.ext (by show (i (0 : Fin 2)).val / 1024 = d.val; omega)
  have e2 : rowIdx i = j := funext fun a => Fin.ext (by
    match a with
    | 0 => show (i (0 : Fin 2)).val % 1024 = (j (0 : Fin 2)).val; omega
    | 1 => exact h1)
  rw [gath, e1, e2]

theorem read_lo (d : Dev nD) : (loM d).view.read (Elt F) (gath m) = xloM.view.read (Elt F) (xOf m d) := by
  funext j
  have hd : d.val < 4 := d.isLt
  refine gath_at m d _ _ ?_ ?_
  · show k0_off2 d 0#32 0 + 1 * (j 0).val = 1024 * d.val + (0 + 1 * (j 0).val)
    rw [show k0_off2 d 0#32 = ![1024 * ((d.val + 4 - 0) % 4), 0] from k0_off2_eq d 0]
    show 1024 * ((d.val + 4 - 0) % 4) + 1 * (j 0).val = 1024 * d.val + (0 + 1 * (j 0).val)
    omega
  · show k0_off2 d 0#32 1 + 1 * (j 1).val = 0 + 1 * (j 1).val
    rw [show k0_off2 d 0#32 = ![1024 * ((d.val + 4 - 0) % 4), 0] from k0_off2_eq d 0]
    rfl

theorem read_hi (d : Dev nD) : (hiM d).view.read (Elt F) (gath m) = xhiM.view.read (Elt F) (xOf m d) := by
  funext j
  have hd : d.val < 4 := d.isLt
  refine gath_at m d _ _ ?_ ?_
  · show k0_off3 d 0#32 0 + 1 * (j 0).val = 1024 * d.val + (512 + 1 * (j 0).val)
    rw [show k0_off3 d 0#32 = ![1024 * ((d.val + 0) % 4) + 512, 0] from k0_off3_eq d 0]
    show 1024 * ((d.val + 0) % 4) + 512 + 1 * (j 0).val = 1024 * d.val + (512 + 1 * (j 0).val)
    omega
  · show k0_off3 d 0#32 1 + 1 * (j 1).val = 0 + 1 * (j 1).val
    rw [show k0_off3 d 0#32 = ![1024 * ((d.val + 0) % 4) + 512, 0] from k0_off3_eq d 0]
    rfl

theorem read_blk (d : Dev nD) : (blkM d).view.read (Elt F) (gath m) = (Memref.whole main_arg0).view.read (Elt F) (xOf m d) := by
  funext j
  refine gath_at m d _ _ ?_ ?_
  · show k0_off1 d 0 + 1 * (j 0).val = 1024 * d.val + (j 0).val
    rw [k0_off1_eq d]
    show 1024 * d.val + 1 * (j 0).val = 1024 * d.val + (j 0).val
    omega
  · show k0_off1 d 1 + 1 * (j 1).val = (j 1).val
    rw [k0_off1_eq d]
    show 0 + 1 * (j 1).val = (j 1).val
    omega

/-- Where a copy's source reads what the gathered array has at its destination, the destination holds the gathered array's elements when the copy is done. -/
theorem landed {sp sp' : Space} {s : Shape} {e : EltTy} (src : View sig .tc sp s e) (dst : View sig .tc sp' s e) (fs : src.ty.Contents (Elt F)) (fd g : dst.ty.Contents (Elt F))
    (h : dst.read (Elt F) g = src.read (Elt F) fs) : ∀ i ∈ dst.set, dst.write (Elt F) fd (src.read (Elt F) fs) Finset.univ i = g i :=
  eq_on_of_read dst (by rw [View.read_write_univ, h])

end Cert.Talk

end
-- ==== Proof.Sched.lean ====
/-
  The two talking calls' protocols as tables. Each call is a family of its own: the cells it opens, who pays each of them and when, and what each payment
  carries (its payload). Nothing here is about the programs; the bodies' proofs read these facts off.

  Indices, which are the levels of the deadlock argument: 0 staging waits; 1 the first call's barrier; 2, 3, 4 its three hops; 5 its local copy;
  6 the second call's barrier; 7 its exchange of maxima; 8 its acknowledgements.
-/
module

public import proofs.«01_k».proof.Proof.Places

@[expose] public section

noncomputable section

namespace Cert.Talk

open Cert.KernelIdeal Cert.KernelIdeal.Gen
open Idealize.ShloMosaic Idealize.ShloMosaic.TcCoe Idealize.ShloMosaic.TalkSites
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The ghost state: the pipeline's own component, and one rounds component for each talking call. -/
abbrev URnd : Type := URounds (GSem nD τ sig) (Dev nD × ℕ)
abbrev UU : Type := UR sig nD τ × (URnd × URnd)
local notation "𝕄" => MT nD τ sig ℕ (Elt F) ℕ UU ℕ

abbrev EP : Emb (UR sig nD τ) (MT nD τ sig ℕ (Elt F) ℕ UU ℕ) := embL
abbrev EC : Emb (URnd × URnd) (MT nD τ sig ℕ (Elt F) ℕ UU ℕ) := embR
abbrev E0 : Emb URnd (MT nD τ sig ℕ (Elt F) ℕ UU ℕ) := (Emb.inl : Emb URnd (URnd × URnd)).trans EC
abbrev E2 : Emb URnd (MT nD τ sig ℕ (Elt F) ℕ UU ℕ) := (Emb.inr : Emb URnd (URnd × URnd)).trans EC

/-- A regular or a transfer semaphore of a device. -/
abbrev regAt (d : Dev nD) (n : Fin 3) : GSem nD τ sig := ((d.tc : Thread nD τ), .reg n)
abbrev dmaAt (d : Dev nD) (n : Fin 32) : GSem nD τ sig := ((d.tc : Thread nD τ), .dma n)

/-! ## The first call: the ring gather -/

abbrev bar0 : SemLoc sig := .reg 0
def dorm0 : Fin 1 → List (SemLoc sig) := fun _ => [.dma 0, .dma 1, .dma 2, .dma 3, .dma 4, .dma 5, .dma 6, .dma 7, .dma 8, .dma 9, .dma 10, .dma 11, .dma 12]

/-- What device c pays, in program order: the two barrier signals, the local copy, and per hop the two transfers, each its own cell and its peer's. -/
def rows0 (d : Dev nD) (_ : Fin 1) : List Row :=
  [((d.val + 3) % 4, 0, 0, 1, 1), ((d.val + 1) % 4, 0, 0, 1, 1), (d.val, 13, 0, 5, 524288),
   (d.val, 1, 0, 2, 262144), ((d.val + 1) % 4, 4, 0, 2, 262144), (d.val, 7, 0, 2, 262144), ((d.val + 3) % 4, 10, 0, 2, 262144),
   (d.val, 2, 0, 3, 262144), ((d.val + 1) % 4, 5, 0, 3, 262144), (d.val, 8, 0, 3, 262144), ((d.val + 3) % 4, 11, 0, 3, 262144),
   (d.val, 3, 0, 4, 262144), ((d.val + 1) % 4, 6, 0, 4, 262144), (d.val, 9, 0, 4, 262144), ((d.val + 3) % 4, 12, 0, 4, 262144)]

/-- What device d is paid. -/
def ins0 (d : Dev nD) : List (Dev nD × ℕ × Row) :=
  [(rot 1 d, 0, (d.val, 0, 0, 1, 1)), (rot 3 d, 1, (d.val, 0, 0, 1, 1)), (d, 2, (d.val, 13, 0, 5, 524288)),
   (d, 3, (d.val, 1, 0, 2, 262144)), (rot 3 d, 4, (d.val, 4, 0, 2, 262144)), (d, 5, (d.val, 7, 0, 2, 262144)), (rot 1 d, 6, (d.val, 10, 0, 2, 262144)),
   (d, 7, (d.val, 2, 0, 3, 262144)), (rot 3 d, 8, (d.val, 5, 0, 3, 262144)), (d, 9, (d.val, 8, 0, 3, 262144)), (rot 1 d, 10, (d.val, 11, 0, 3, 262144)),
   (d, 11, (d.val, 3, 0, 4, 262144)), (rot 3 d, 12, (d.val, 6, 0, 4, 262144)), (d, 13, (d.val, 9, 0, 4, 262144)), (rot 1 d, 14, (d.val, 12, 0, 4, 262144))]

theorem ins0_perm : ∀ d : Dev nD, (incoming rows0 0 d).Perm (ins0 d) := by decide +kernel
theorem hsem0 : ((List.finRange 1).all fun j => (dorm0 j).all fun sm => decide (semKeyL dorm0 sm = j ∧ sm ≠ bar0)) = true := by decide +kernel
theorem hrow0 : ((List.finRange nD).all fun c => (List.finRange 1).all fun j =>
    (toksR (rows0 c j)).all fun r => decide ((r.2.1 = 0 ∧ r.2.2.1 = j.val) ∨ (0 < r.2.1 ∧ r.2.1 ≤ (dorm0 j).length))) = true := by decide +kernel
theorem hok0 : rowsOk bar0 dorm0 rows0 (fun _ => 1) = true := by decide +kernel

/-- The gathered array, and `x`, on a device. -/
abbrev vLoc (d : Dev nD) : Loc nD τ sig := (d.tc : Thread nD τ).loc main_v1
abbrev xLoc (d : Dev nD) : Loc nD τ sig := (d.tc : Thread nD τ).loc main_arg0

variable (m : (ℓ : Loc nD τ sig) → Buf (Elt F) ℓ)

/-- On device p, the low (high) half of block d, gathered. -/
def loAt (p d : Dev nD) : sProp 𝕄 := vLoc p ↦[(loM d).view.set]{fullShare} gath m
def hiAt (p d : Dev nD) : sProp 𝕄 := vLoc p ↦[(hiM d).view.set]{fullShare} gath m
/-- The same places at contents not chosen. -/
def loAny (p d : Dev nD) : sProp 𝕄 := iprop(∃ f : S4096x4096.Idx → Elt F .f32, vLoc p ↦[(loM d).view.set]{fullShare} f)
def hiAny (p d : Dev nD) : sProp 𝕄 := iprop(∃ f : S4096x4096.Idx → Elt F .f32, vLoc p ↦[(hiM d).view.set]{fullShare} f)

/-- A transfer's payload, by the number of its semaphore: at a sending cell the source comes back, at a receiving cell the destination holds its half. -/
def dmaPay0 (d : Dev nD) : ℕ → sProp 𝕄
  | 0 => xLoc d ↦[xloM.view.set]{fullShare.right} xOf m d
  | 1 => loAt m d (rot 3 d)
  | 2 => loAt m d (rot 2 d)
  | 3 => loAt m d (rot 3 d)
  | 4 => loAt m d (rot 2 d)
  | 5 => loAt m d (rot 1 d)
  | 6 => xLoc d ↦[xhiM.view.set]{fullShare.right} xOf m d
  | 7 => hiAt m d (rot 1 d)
  | 8 => hiAt m d (rot 2 d)
  | 9 => hiAt m d (rot 1 d)
  | 10 => hiAt m d (rot 2 d)
  | 11 => hiAt m d (rot 3 d)
  | 12 => iprop((xLoc d ↦{fullShare.left} xOf m d) ∗ vLoc d ↦[(blkM d).view.set]{fullShare} gath m)
  | _ => iprop(emp)

/-- What the neighbour on the right hands over with its barrier signal: on it, the low halves that device d will write there, and that its receiving cells are open. -/
def barR (d : Dev nD) : sProp 𝕄 :=
  iprop((loAny (rot 1 d) d ∗ loAny (rot 1 d) (rot 3 d) ∗ loAny (rot 1 d) (rot 2 d))
    ∗ reached E0 (dmaAt (rot 1 d) 3) 0 ∗ reached E0 (dmaAt (rot 1 d) 4) 0 ∗ reached E0 (dmaAt (rot 1 d) 5) 0)
/-- And the neighbour on the left: the high halves. -/
def barL (d : Dev nD) : sProp 𝕄 :=
  iprop((hiAny (rot 3 d) d ∗ hiAny (rot 3 d) (rot 1 d) ∗ hiAny (rot 3 d) (rot 2 d))
    ∗ reached E0 (dmaAt (rot 3 d) 9) 0 ∗ reached E0 (dmaAt (rot 3 d) 10) 0 ∗ reached E0 (dmaAt (rot 3 d) 11) 0)

/-- The first call's payloads. -/
def pay0 (g : GSem nD τ sig) (_ : ℕ) (x : Dev nD × ℕ) : sProp 𝕄 :=
  match g.2 with
  | .reg _ => if x.2 = 0 then barR g.1.1 else barL g.1.1
  | .dma n => dmaPay0 m g.1.1 n.val

instance pay0_storable (g : GSem nD τ sig) (r : ℕ) (x : Dev nD × ℕ) : BI.Storable (upEmb : UEmb _ 𝕄) (pay0 (F := F) m g r x) := by
  obtain ⟨t, sm⟩ := g
  unfold pay0
  match sm with
  | .reg _ => show BI.Storable _ (if x.2 = 0 then barR (F := F) t.1 else barL t.1); unfold barR barL loAny hiAny; split_ifs <;> infer_instance
  | .dma n => show BI.Storable _ (dmaPay0 m t.1 n.val); unfold dmaPay0 loAt hiAt; split <;> infer_instance

/-- The first call's schedule, and its family. -/
abbrev Rd0 : Schedule (GSem nD τ sig) (Dev nD × ℕ) 𝕄 := Sched.ofRows bar0 dorm0 rows0 (fun _ => 1) hok0 (pay0 m)
abbrev Fm0 : Fam nD τ sig (Dev nD × ℕ) 1 := Fam.ofRows bar0 dorm0 rows0 hsem0 hrow0

/-! ## The second call: the exchange of maxima -/

abbrev bar2 : SemLoc sig := .reg 2
def dorm2 : Fin 1 → List (SemLoc sig) := fun _ => [.reg 1, .dma 25, .dma 26, .dma 27, .dma 28, .dma 29, .dma 30, .dma 31]

/-- What device c pays: a barrier signal to each of the others, the three transfers (its own cell and its peer's), an acknowledgement to each of the others. -/
def rows2 (d : Dev nD) (_ : Fin 1) : List Row :=
  [((d.val + 1) % 4, 0, 0, 6, 1), ((d.val + 2) % 4, 0, 0, 6, 1), ((d.val + 3) % 4, 0, 0, 6, 1),
   (d.val, 2, 0, 7, 128), ((d.val + 1) % 4, 5 + d.val, 0, 7, 128), (d.val, 3, 0, 7, 128), ((d.val + 2) % 4, 5 + d.val, 0, 7, 128),
   (d.val, 4, 0, 7, 128), ((d.val + 3) % 4, 5 + d.val, 0, 7, 128),
   ((d.val + 1) % 4, 1, 0, 8, 1), ((d.val + 2) % 4, 1, 0, 8, 1), ((d.val + 3) % 4, 1, 0, 8, 1)]

/-- What device d is paid. -/
def ins2 (d : Dev nD) : List (Dev nD × ℕ × Row) :=
  [(rot 3 d, 0, (d.val, 0, 0, 6, 1)), (rot 2 d, 1, (d.val, 0, 0, 6, 1)), (rot 1 d, 2, (d.val, 0, 0, 6, 1)),
   (d, 3, (d.val, 2, 0, 7, 128)), (rot 3 d, 4, (d.val, 5 + (rot 3 d).val, 0, 7, 128)), (d, 5, (d.val, 3, 0, 7, 128)), (rot 2 d, 6, (d.val, 5 + (rot 2 d).val, 0, 7, 128)),
   (d, 7, (d.val, 4, 0, 7, 128)), (rot 1 d, 8, (d.val, 5 + (rot 1 d).val, 0, 7, 128)),
   (rot 3 d, 9, (d.val, 1, 0, 8, 1)), (rot 2 d, 10, (d.val, 1, 0, 8, 1)), (rot 1 d, 11, (d.val, 1, 0, 8, 1))]

theorem ins2_perm : ∀ d : Dev nD, (incoming rows2 0 d).Perm (ins2 d) := by decide +kernel
theorem hsem2 : ((List.finRange 1).all fun j => (dorm2 j).all fun sm => decide (semKeyL dorm2 sm = j ∧ sm ≠ bar2)) = true := by decide +kernel
theorem hrow2 : ((List.finRange nD).all fun c => (List.finRange 1).all fun j =>
    (toksR (rows2 c j)).all fun r => decide ((r.2.1 = 0 ∧ r.2.2.1 = j.val) ∨ (0 < r.2.1 ∧ r.2.1 ≤ (dorm2 j).length))) = true := by decide +kernel
theorem hok2 : rowsOk bar2 dorm2 rows2 (fun _ => 1) = true := by decide +kernel

/-- The four slots, and the block that a device sends, on a device. -/
abbrev sLoc (d : Dev nD) : Loc nD τ sig := (d.tc : Thread nD τ).loc cc2_scratch0
abbrev bLoc (d : Dev nD) : Loc nD τ sig := (d.tc : Thread nD τ).loc cc2_scratch1
/-- The elements of slot p. -/
def slotS (p : Dev nD) : Finset S4x8x128.Idx := Finset.univ.filter fun i => (i (0 : Fin 3)).val = p.val

/-- The three shares in which a device lends the block that it sends. -/
def lent : ℕ → PosShare TreeShare
  | 0 => fullShare.left
  | 1 => fullShare.right.left
  | _ => fullShare.right.right

variable (a : Dev nD → Elt F .f32)

/-- The slots when every device's number has arrived: slot p holds device p's. -/
def slotV : S4x8x128.Idx → Elt F .f32 := fun i => a ⟨(i (0 : Fin 3)).val, (i (0 : Fin 3)).isLt⟩
/-- On device p, slot d at contents not chosen. -/
def slotAny (p d : Dev nD) : sProp 𝕄 := iprop(∃ f : S4x8x128.Idx → Elt F .f32, sLoc p ↦[slotS d]{fullShare} f)

/-- A transfer's payload, by the number of its semaphore. -/
def dmaPay2 (d : Dev nD) : ℕ → sProp 𝕄
  | 25 => bLoc d ↦{lent 0} (fun _ => a d)
  | 26 => bLoc d ↦{lent 1} (fun _ => a d)
  | 27 => bLoc d ↦{lent 2} (fun _ => a d)
  | 28 => sLoc d ↦[slotS 0]{fullShare} slotV a
  | 29 => sLoc d ↦[slotS 1]{fullShare} slotV a
  | 30 => sLoc d ↦[slotS 2]{fullShare} slotV a
  | 31 => sLoc d ↦[slotS 3]{fullShare} slotV a
  | _ => iprop(emp)

/-- The receiving cell of what device p sends. -/
abbrev recvSem (p : Dev nD) : Fin 32 := ⟨28 + p.val, by have : p.val < 4 := p.isLt; omega⟩

/-- The sending cell of a device's transfer number k. -/
abbrev sendSem (k : Fin 3) : Fin 32 := ⟨25 + k.val, by omega⟩

/-- The second call's payloads: with a barrier signal the payer hands over, on itself, the slot of the device it signals, and that its receiving cell for it and its acknowledgement cell are open. -/
def pay2 (g : GSem nD τ sig) (_ : ℕ) (x : Dev nD × ℕ) : sProp 𝕄 :=
  match g.2 with
  | .reg n => if n = 2 then iprop(slotAny x.1 g.1.1 ∗ reached E2 (dmaAt x.1 (recvSem g.1.1)) 0 ∗ reached E2 (regAt x.1 1) 0) else iprop(emp)
  | .dma n => dmaPay2 a g.1.1 n.val

instance pay2_storable (g : GSem nD τ sig) (r : ℕ) (x : Dev nD × ℕ) : BI.Storable (upEmb : UEmb _ 𝕄) (pay2 (F := F) a g r x) := by
  obtain ⟨t, sm⟩ := g
  unfold pay2
  match sm with
  | .reg n =>
    show BI.Storable _ (if n = 2 then iprop(slotAny (F := F) x.1 t.1 ∗ reached E2 (dmaAt x.1 (recvSem t.1)) 0 ∗ reached E2 (regAt x.1 1) 0) else iprop(emp))
    unfold slotAny; split_ifs <;> infer_instance
  | .dma n => show BI.Storable _ (dmaPay2 a t.1 n.val); unfold dmaPay2; split <;> infer_instance

/-- The second call's schedule, and its family. -/
abbrev Rd2 : Schedule (GSem nD τ sig) (Dev nD × ℕ) 𝕄 := Sched.ofRows bar2 dorm2 rows2 (fun _ => 1) hok2 (pay2 a)
abbrev Fm2 : Fam nD τ sig (Dev nD × ℕ) 1 := Fam.ofRows bar2 dorm2 rows2 hsem2 hrow2

/-! ## Waits and payments, read off the tables -/

theorem bar0_wait (d : Dev nD) : (Rd0 m).expect (regAt d 0) 0 = 2
    ∧ ∀ f : Dev nD × ℕ → sProp 𝕄, bigSep ((Rd0 m).duties (regAt d 0) 0 \ ∅) f = bigSepL [(rot 1 d, 0), (rot 3 d, 1)] f :=
  Sched.wait_of bar0 dorm0 (fun _ => 1) hok0 (pay0 m) d bar0 0 (launchN_bar bar0 dorm0 _ (by decide)) (ins0_perm d)

theorem dma0_wait (d : Dev nD) (n : Fin 32) (h : SemLoc.dma n ∈ dorm0 0) : (Rd0 m).expect (dmaAt d n) 0 = ((forCell bar0 dorm0 0 (.dma n) 0 (ins0 d)).map fun x => x.2.2.2.2.2.2).sum
    ∧ ∀ f : Dev nD × ℕ → sProp 𝕄, bigSep ((Rd0 m).duties (dmaAt d n) 0 \ ∅) f = bigSepL ((forCell bar0 dorm0 0 (.dma n) 0 (ins0 d)).map fun x => (x.1, x.2.1)) f :=
  Sched.wait_of bar0 dorm0 (fun _ => 1) hok0 (pay0 m) d (.dma n) 0 (launchN_dorm bar0 dorm0 hsem0 h _ _) (ins0_perm d)

/-- Who pays a cell of the second call, and how many units it is paid in all. -/
theorem wait2 (d : Dev nD) (sm : SemLoc sig) (hj : launchN bar2 dorm2 ((d.tc : Thread nD τ), sm) 0 = 0) {l : List (Dev nD × ℕ)} {n : ℕ}
    (h : (forCell bar2 dorm2 0 sm 0 (ins2 d)).map (fun x => (x.1, x.2.1)) = l) (hn : ((forCell bar2 dorm2 0 sm 0 (ins2 d)).map fun x => x.2.2.2.2.2.2).sum = n) :
    (Rd2 a).expect ((d.tc : Thread nD τ), sm) 0 = n ∧ ∀ f : Dev nD × ℕ → sProp 𝕄, bigSep ((Rd2 a).duties ((d.tc : Thread nD τ), sm) 0 \ ∅) f = bigSepL l f := by
  obtain ⟨h1, h2⟩ := Sched.wait_of bar2 dorm2 (fun _ => 1) hok2 (pay2 a) d sm 0 hj (ins2_perm d)
  exact ⟨h1.trans hn, fun f => (h2 f).trans (by rw [h])⟩

theorem bar2_wait (d : Dev nD) : (Rd2 a).expect (regAt d 2) 0 = 3
    ∧ ∀ f : Dev nD × ℕ → sProp 𝕄, bigSep ((Rd2 a).duties (regAt d 2) 0 \ ∅) f = bigSepL [(rot 3 d, 0), (rot 2 d, 1), (rot 1 d, 2)] f :=
  wait2 a d _ (launchN_bar bar2 dorm2 _ (by decide)) (by revert d; decide +kernel) (by revert d; decide +kernel)

theorem ack_wait (d : Dev nD) : (Rd2 a).expect (regAt d 1) 0 = 3
    ∧ ∀ f : Dev nD × ℕ → sProp 𝕄, bigSep ((Rd2 a).duties (regAt d 1) 0 \ ∅) f = bigSepL [(rot 3 d, 9), (rot 2 d, 10), (rot 1 d, 11)] f :=
  wait2 a d _ (launchN_dorm bar2 dorm2 hsem2 (by decide) _ _) (by revert d; decide +kernel) (by revert d; decide +kernel)

theorem send2_wait (d : Dev nD) (k : Fin 3) : (Rd2 a).expect (dmaAt d (sendSem k)) 0 = 128
    ∧ ∀ f : Dev nD × ℕ → sProp 𝕄, bigSep ((Rd2 a).duties (dmaAt d (sendSem k)) 0 \ ∅) f = f (d, 3 + 2 * k.val) :=
  wait2 a d (.dma (sendSem k)) (l := [(d, 3 + 2 * k.val)]) (n := 128)
    (launchN_dorm bar2 dorm2 hsem2 (by revert k; decide) _ _) (by revert d k; decide +kernel) (by revert d k; decide +kernel)

theorem recv2_wait (d : Dev nD) (k : Fin 3) : (Rd2 a).expect (dmaAt d (recvSem (rot (k.val + 1) d))) 0 = 128
    ∧ ∀ f : Dev nD × ℕ → sProp 𝕄, bigSep ((Rd2 a).duties (dmaAt d (recvSem (rot (k.val + 1) d))) 0 \ ∅) f = f (rot (k.val + 1) d, 8 - 2 * k.val) :=
  wait2 a d (.dma (recvSem (rot (k.val + 1) d))) (l := [(rot (k.val + 1) d, 8 - 2 * k.val)]) (n := 128)
    (launchN_dorm bar2 dorm2 hsem2 (by revert d k; decide +kernel) _ _) (by revert d k; decide +kernel) (by revert d k; decide +kernel)

end Cert.Talk

end
-- ==== Proof.GatherSteps.lean ====
/-
  Call 0 (the all-gather): the instructions' rules at this protocol, one for each kind of instruction. What the device still owes is the tail of one list,
  `rem0`, its payments to other devices in program order; every signal and every transfer takes one off.
-/
module

public import proofs.«01_k».proof.Proof.Sched

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

abbrev 𝒱₀ : Variants := Variants.none

/-- What a device owes, whatever waits it has recorded. -/
def ow (c : Dev nD) (O : CellTallies nD τ sig ℕ) : sProp 𝕄 := iprop(∃ W, owes (c : Thread nD τ) O W)

variable (m : (ℓ : Loc nD τ sig) → Buf (Elt F) ℓ) (κ : GSem nD τ sig → ℕ) (c : Dev nD)

/-- The first call's invariants, at the names κ. -/
abbrev invs0 : sProp 𝕄 := Fm0.cellInvs E0 (Rd0 m) κ

theorem inv0_bar (d : Dev nD) : invs0 m κ ⊢ cellInv E0 (Rd0 m) (κ (regAt d 0)) (regAt d 0) := Fm0.cellInvs_bar E0 (Rd0 m) κ d
theorem inv0_dma (d : Dev nD) {n : Fin 32} (h : SemLoc.dma n ∈ dorm0 0) : invs0 m κ ⊢ cellInv E0 (Rd0 m) (κ (dmaAt d n)) (dmaAt d n) :=
  Fm0.cellInvs_dorm E0 (Rd0 m) κ d (j := 0) (List.mem_toFinset.mpr h)

theorem payload0 (g : GSem nD τ sig) (r : ℕ) (x : Dev nD × ℕ) : (Rd0 m).payload g r x = pay0 m g r x := rfl
theorem rest0 (n : Fin 32) (x : Dev nD × ℕ) : bigSepL [x] (fun y => (Rd0 m).payload (dmaAt c n) 0 y) = dmaPay0 m c n.val := rfl

theorem barPays : bigSepL [(rot 1 c, 0), (rot 3 c, 1)] (fun y => (Rd0 m).payload (regAt c 0) 0 y) = iprop(barR c ∗ barL c) := rfl
/-- Device c's `x` as one view sees it. -/
theorem wholeX (q : PosShare TreeShare) : (((Memref.whole main_arg0).view.loc (c : Thread nD τ) ↦[(Memref.whole main_arg0).view.set]{q} xOf m c) : sProp 𝕄) = (xLoc c ↦{q} xOf m c) := by
  rw [show (Memref.whole main_arg0).view.set = Finset.univ from View.set_whole _]
theorem copyPays (f : S4096x4096.Idx → Elt F .f32) :
    iprop(((blkM c).view.loc (c : Thread nD τ) ↦[(blkM c).view.set]{fullShare} ((blkM c).view.write (Elt F) f ((Memref.whole main_arg0).view.read (Elt F) (xOf m c)) Finset.univ))
        ∗ ((Memref.whole main_arg0).view.loc (c : Thread nD τ) ↦[(Memref.whole main_arg0).view.set]{fullShare.left} xOf m c)) ⊢ ((Rd0 m).payload (dmaAt c 12) 0 (c, 2) : sProp 𝕄) := by
  rw [wholeX, pointsTo_congr (landed (Memref.whole main_arg0).view (blkM c).view (xOf m c) f (gath m) (read_blk m c))]
  iintro ⟨Hv, Hx⟩
  rw [show ((Rd0 m).payload (dmaAt c 12) 0 (c, 2) : sProp 𝕄) = iprop((xLoc c ↦{fullShare.left} xOf m c) ∗ vLoc c ↦[(blkM c).view.set]{fullShare} gath m) from rfl]
  isplitl [Hx]; · iexact Hx
  iexact Hv

/-- What device c pays to the others, in program order. -/
def rem0 (d : Dev nD) (_ : Fin 1) : List Row :=
  [((rot 3 d).val, 0, 0, 1, 1), ((rot 1 d).val, 0, 0, 1, 1),
   ((rot 1 d).val, 4, 0, 2, 262144), ((rot 3 d).val, 10, 0, 2, 262144),
   ((rot 1 d).val, 5, 0, 3, 262144), ((rot 3 d).val, 11, 0, 3, 262144),
   ((rot 1 d).val, 6, 0, 4, 262144), ((rot 3 d).val, 12, 0, 4, 262144)]

/-- What it owes when it has made the first k of them, `O` being owed to later calls. -/
def owed0 (O : CellTallies nD τ sig ℕ) (k : ℕ) : CellTallies nD τ sig ℕ := addL O (duesR bar0 (dorm0 0) ((rem0 c 0).drop k))

theorem owed0_step (O : CellTallies nD τ sig ℕ) (k : ℕ) {d : Dev nD} {s r ι u : ℕ} (h : (rem0 c 0)[k]? = some (d.val, s, r, ι, u)) :
    owed0 c O k = owed0 c O (k + 1) + tallyAt ((d.tc : Thread nD τ), (bar0 :: dorm0 0).getD s bar0) ι u :=
  (addL_duesR_drop O bar0 (dorm0 0) h).trans (congrArg (fun p => owed0 c O (k + 1) + Pay.tally p) (payN_val bar0 (dorm0 0) d s ι u))

/-- Every payment still to make, after the first k, is at an index above i. -/
def later0 (k i : ℕ) : Prop := ∀ c : Dev nD, ∀ x ∈ (rem0 c 0).drop k, i < x.2.2.2.1 ∧ x.2.2.2.1 < 6
instance (k i : ℕ) : Decidable (later0 k i) := by unfold later0; infer_instance

theorem mayWait0 {O : Dev nD → CellTallies nD τ sig ℕ} (hO : Above 9 6 O) (sm : SemLoc sig) (k i : ℕ) (hi : i < 6) (h : later0 k i) :
    (levAts (L 9) lv : sProp 𝕄) ⊢ MayWait (c : Thread nD τ) sm i (owed0 c (O c) k) :=
  mayWait_addL hi (by decide) hO c sm _ fun x hx => by
    obtain ⟨y, hy, rfl⟩ := List.mem_map.mp (List.mem_reverse.mp hx)
    exact ⟨rfl, h c y hy⟩

/-- A barrier signal. -/
theorem sig0 {α : Type} {Q : α → sProp (MT nD τ sig ℕ (Elt F) ℕ UU ℕ)} {O₀ : CellTallies nD τ sig ℕ} (O : CellTallies nD τ sig ℕ) (d : Dev nD) (i : ℕ) {k : PUnit → Prog (TpuEff nD τ sig (Elt F) Λ₀ .tc) α}
    (hd : (c, i) ∈ (Rd0 m).duties (regAt d 0) 0 ∧ (Rd0 m).amount (regAt d 0) 0 (c, i) = 1) (hO : O₀ = O + tallyAt (regAt d 0) 1 1) :
    iprop(invs0 m κ ∗ ow c O₀ ∗ dutyTok E0 (regAt d 0) 0 (c, i) ∗ reached E0 (regAt d 0) 0 ∗ pay0 m (regAt d 0) 0 (c, i))
      ⊢ iprop((ow c O -∗ wp frame (wpE (defs₀ (F := F)) 𝒱₀ c none) Set.univ (k ⟨⟩) Q)
          -∗ wp frame (wpE (defs₀ (F := F)) 𝒱₀ c none) Set.univ (.op (.semSignal (d.tc : Thread nD τ) (0 : Fin 3) (1#32 : BitVec 32).toInt) k) Q) := by
  unfold ow
  iintro ⟨#HI, ⟨%W, HO⟩, Ht, Hr, Hp⟩ Hk
  ihave HId := (inv0_bar m κ d) $$ HI
  iapply (Rounds.wp_signal 𝒱₀ E0 (Rd0 m) (c : Thread nD τ) none (dst := (d.tc : Thread nD τ)) (sem := (0 : Fin 3)) (r := 0) (d := (c, i)) (κ := κ (regAt d 0))
      hd.1 hd.2 1 O hO) $$ [HId HO Ht Hr Hp]
  · isplitl [HId]; · iexact HId
    isplitl [HO]; · iexact HO
    isplitl [Ht]; · iexact Ht
    isplitl [Hp]; · rw [payload0]; iexact Hp
    iexact Hr
  iintro HO
  iapply Hk
  iexists W; iexact HO

/-- The wait for one transfer. -/
theorem wait0 {α : Type} {Q : α → sProp (MT nD τ sig ℕ (Elt F) ℕ UU ℕ)} {O : Dev nD → CellTallies nD τ sig ℕ} (hO : Above 9 6 O) (k : ℕ) (n : Fin 32) (hn : SemLoc.dma n ∈ dorm0 0) (ι N : ℕ) {x : Dev nD × ℕ}
    (hl : ((forCell bar0 dorm0 0 (.dma n) 0 (ins0 c)).map fun x => x.2.2.2.2.2.2).sum = N)
    (hx : (forCell bar0 dorm0 0 (.dma n) 0 (ins0 c)).map (fun x => (x.1, x.2.1)) = [x]) (hι : ι < 6) (hk : later0 k ι)
    {sp sp' : Space} {s s' : Shape} {e e' : EltTy} {src : Memref sig .tc sp' s' e'} {dst : Memref sig .tc sp s e} {h₁ : src.view.WordExact} {h₂ : dst.view.WordExact}
    (hN : dst.view.dmaCredit = N) {kk : PUnit → Prog (TpuEff nD τ sig (Elt F) Λ₀ .tc) α} :
    iprop(invs0 m κ ∗ levAts (L 9) lv ∗ ow c (owed0 c (O c) k) ∗ cred (tallyAt (dmaAt c n) ι N) ∗ atPos E0 (dmaAt c n) 0 ∅ 0)
      ⊢ iprop(((ow c (owed0 c (O c) k) ∗ semVal (dmaAt c n) 0 ∗ dmaPay0 m c n.val) -∗ wp frame (wpE (defs₀ (F := F)) 𝒱₀ c none) Set.univ (kk ⟨⟩) Q)
          -∗ wp frame (wpE (defs₀ (F := F)) 𝒱₀ c none) Set.univ (.op (.waitDma2 n src dst h₁ h₂) kk) Q) := by
  subst hN
  have hw := dma0_wait m c n hn
  unfold ow
  iintro ⟨#HI, #Hlev, ⟨%W, HO⟩, Hc, Ha⟩ Hk
  ihave HId := (inv0_dma m κ c hn) $$ HI
  ihave HIe := (inv0_dma m κ c hn) $$ HI
  iapply (Rounds.wp_wait_rest_token 𝒱₀ E0 (Rd0 m) (c : Thread nD τ) none (κ := κ (dmaAt c n))
      (wpE_waitDma2_eq (src := src) (dst := dst) 𝒱₀ (c : Thread nD τ) none Set.univ) (Set.mem_univ _) ι (O := owed0 c (O c) k) (W := W) (R := 0) (m := 0) (T := ∅)
      ((Nat.zero_add _).trans (hw.1.trans hl).symm)) $$ [HId Hc HO Ha]
  · isplitl [HId]; · iexact HId
    isplitl [Hc]; · iexact Hc
    isplitl [HO]; · iexact HO
    isplitr; · iapply (mayWait0 c hO (.dma n) k ι hι hk); iexact Hlev
    iexact Ha
  iintro ⟨HO, Ha, -, Hp⟩
  ihave Hp' := (Entails.of_eq ((hw.2 _).trans ((congrArg (fun l => bigSepL l _) hx).trans (rest0 m c n x)))) $$ Hp
  imod (Rounds.cell_close E0 (Rd0 m) (κ := κ (dmaAt c n)) (Set.mem_univ _) id (R := 1) fun r hr => Sched.later bar0 dorm0 rows0 (fun _ => 1) hok0 (pay0 m) _ r hr) $$ [HIe Ha] with Hz
  · isplitl [HIe]; · iexact HIe
    iexact Ha
  iapply Hk
  isplitl [HO]; · iexists _; iexact HO
  isplitl [Hz]; · iexact Hz
  iexact Hp'

/-- The wait for the two barrier signals. -/
theorem barWait0 {α : Type} {Q : α → sProp (MT nD τ sig ℕ (Elt F) ℕ UU ℕ)} {O : Dev nD → CellTallies nD τ sig ℕ} (hO : Above 9 6 O) (k : ℕ) (hk : later0 k 1)
    {kk : PUnit → Prog (TpuEff nD τ sig (Elt F) Λ₀ .tc) α} :
    iprop(invs0 m κ ∗ levAts (L 9) lv ∗ ow c (owed0 c (O c) k) ∗ cred (tallyAt (regAt c 0) 1 2) ∗ atPos E0 (regAt c 0) 0 ∅ 0)
      ⊢ iprop(((ow c (owed0 c (O c) k) ∗ atPos E0 (regAt c 0) 1 ∅ 0 ∗ barR c ∗ barL c) -∗ wp frame (wpE (defs₀ (F := F)) 𝒱₀ c none) Set.univ (kk ⟨⟩) Q)
          -∗ wp frame (wpE (defs₀ (F := F)) 𝒱₀ c none) Set.univ (.op (.semWait (0 : Fin 3) (2#32 : BitVec 32).toInt.toNat) kk) Q) := by
  have hw := bar0_wait m c
  unfold ow
  iintro ⟨#HI, #Hlev, ⟨%W, HO⟩, Hc, Ha⟩ Hk
  ihave HId := (inv0_bar m κ c) $$ HI
  iapply (Rounds.wp_wait_rest_token 𝒱₀ E0 (Rd0 m) (c : Thread nD τ) none (κ := κ (regAt c 0))
      (wpE_semWait_eq 𝒱₀ (c : Thread nD τ) none Set.univ) (Set.mem_univ _) 1 (O := owed0 c (O c) k) (W := W) (R := 0) (m := 0) (T := ∅)
      (by rw [hw.1]; decide)) $$ [HId Hc HO Ha]
  · isplitl [HId]; · iexact HId
    isplitl [Hc]; · iexact Hc
    isplitl [HO]; · iexact HO
    isplitr; · iapply (mayWait0 c hO (.reg 0) k 1 (by decide) hk); iexact Hlev
    iexact Ha
  iintro ⟨HO, Ha, -, Hp⟩
  ihave Hp' := (Entails.of_eq ((hw.2 _).trans (barPays m c))) $$ Hp
  iapply Hk
  isplitl [HO]; · iexists _; iexact HO
  isplitl [Ha]; · iexact Ha
  iexact Hp'

/-- The device's own rows copied into its own block. -/
theorem copy0 {α : Type} {Q : α → sProp (MT nD τ sig ℕ (Elt F) ℕ UU ℕ)} {h₁ : (Memref.whole main_arg0).view.WordExact} {h₂ : (blkM c).view.WordExact} {h₃ : DmaTarget.Typed (nD := nD) main_arg0.space (.dma 12) (.here (p := (c : Thread nD τ).2) (blkM c))}
    (hd : (c, 2) ∈ (Rd0 m).duties (dmaAt c 12) 0 ∧ (Rd0 m).amount (dmaAt c 12) 0 (c, 2) = 524288) (f : S4096x4096.Idx → Elt F .f32)
    {kk : PUnit → Prog (TpuEff nD τ sig (Elt F) Λ₀ .tc) α} :
    iprop(invs0 m κ ∗ (xLoc c ↦{fullShare.left} xOf m c) ∗ (vLoc c ↦[(blkM c).view.set]{fullShare} f) ∗ dutyTok E0 (dmaAt c 12) 0 (c, 2) ∗ reached E0 (dmaAt c 12) 0)
      ⊢ iprop((cred (tallyAt (dmaAt c 12) 5 524288) -∗ wp frame (wpE (defs₀ (F := F)) 𝒱₀ c none) Set.univ (kk ⟨⟩) Q)
          -∗ wp frame (wpE (defs₀ (F := F)) 𝒱₀ c none) Set.univ (.op (.enqueueDma (Memref.whole main_arg0) (.here (p := (c : Thread nD τ).2) (blkM c)) (.dma 12) h₁ h₂ h₃) kk) Q) := by
  iintro ⟨#HI, Hx, Hv, Ht, Hr⟩ Hk
  ihave HId := (inv0_dma m κ c (n := 12) (by decide)) $$ HI
  iapply (Rounds.wp_copy_pointsTo 𝒱₀ E0 (Rd0 m) (c : Thread nD τ) none (src := Memref.whole main_arg0) (dst := blkM c) (sem := .dma 12) (q := fullShare.left) (fs := xOf m c) (fd := f)
      (r := 0) (d := (c, 2)) (κ := κ (dmaAt c 12)) hd.1 5 524288 rfl hd.2 (copyPays m c f)) $$ [HId Hx Hv Ht Hr]
  · isplitl [HId]; · iexact HId
    isplitl [Hx]; · rw [wholeX]; iexact Hx
    isplitl [Hv]; · iexact Hv
    isplitl [Ht]; · iexact Ht
    iexact Hr
  iintro Hc
  iapply Hk
  iexact Hc

/-- A transfer to another device. -/
theorem send0 {α : Type} {Q : α → sProp (MT nD τ sig ℕ (Elt F) ℕ UU ℕ)} {O₀ : CellTallies nD τ sig ℕ} (O : CellTallies nD τ sig ℕ) (d : Dev nD) {d' : Dev nD} (hdd : d = d') (nS nR : Fin 32) (hS : SemLoc.dma nS ∈ dorm0 0) (hR : SemLoc.dma nR ∈ dorm0 0) (iS iR ι : ℕ)
    (hdS : (c, iS) ∈ (Rd0 m).duties (dmaAt c nS) 0 ∧ (Rd0 m).amount (dmaAt c nS) 0 (c, iS) = 262144)
    (hdR : (c, iR) ∈ (Rd0 m).duties (dmaAt d nR) 0 ∧ (Rd0 m).amount (dmaAt d nR) 0 (c, iR) = 262144)
    (hO : O₀ = O + tallyAt (dmaAt d nR) ι 262144)
    {src dst : Memref sig .tc .hbm S512x4096 .f32} {h₁ : src.view.WordExact} {h₂ : dst.view.WordExact} {h₃ : DmaTarget.Typed (nD := nD) .hbm (.dma nR) (.remote (d'.tc : Thread nD τ) dst (.dma nS) rfl)}
    (hN : dst.view.amount (.dma nR) = 262144) {q : PosShare TreeShare} {fs : src.view.ty.Contents (Elt F)} (fd g : dst.view.ty.Contents (Elt F))
    (hg : dst.view.read (Elt F) g = src.view.read (Elt F) fs)
    (hpS : ((src.view.loc (c : Thread nD τ) ↦[src.view.set]{q} fs) : sProp 𝕄) = dmaPay0 m c nS.val)
    (hpR : ((dst.view.loc (d : Thread nD τ) ↦[dst.view.set]{fullShare} g) : sProp 𝕄) = dmaPay0 m d nR.val)
    {kk : PUnit → Prog (TpuEff nD τ sig (Elt F) Λ₀ .tc) α} :
    iprop(invs0 m κ ∗ ow c O₀ ∗ dmaPay0 m c nS.val ∗ (dst.view.loc (d : Thread nD τ) ↦[dst.view.set]{fullShare} fd)
        ∗ (dutyTok E0 (dmaAt c nS) 0 (c, iS) ∗ reached E0 (dmaAt c nS) 0) ∗ dutyTok E0 (dmaAt d nR) 0 (c, iR) ∗ reached E0 (dmaAt d nR) 0)
      ⊢ iprop(((cred (tallyAt (dmaAt c nS) ι 262144) ∗ ow c O) -∗ wp frame (wpE (defs₀ (F := F)) 𝒱₀ c none) Set.univ (kk ⟨⟩) Q)
          -∗ wp frame (wpE (defs₀ (F := F)) 𝒱₀ c none) Set.univ (.op (.enqueueDma src (.remote (d'.tc : Thread nD τ) dst (.dma nS) rfl) (.dma nR) h₁ h₂ h₃) kk) Q) := by
  subst hdd
  unfold ow
  rw [← hpS]
  iintro ⟨#HI, ⟨%W, HO⟩, Hs, Hd, ⟨HtS, HrS⟩, HtR, HrR⟩ Hk
  ihave HIS := (inv0_dma m κ c hS) $$ HI
  ihave HIR := (inv0_dma m κ d hR) $$ HI
  iapply (Rounds.wp_send_pointsTo 𝒱₀ E0 (Rd0 m) (c : Thread nD τ) none (c' := (d.tc : Thread nD τ)) (src := src) (dst := dst)
      (sS := .dma nS) (sem := .dma nR) (q := q) (fs := fs) (κ₁ := κ (dmaAt c nS)) (κ₂ := κ (dmaAt d nR))
      (r₁ := 0) (r₂ := 0) (d₁ := (c, iS)) (d₂ := (c, iR)) (fd := fd) hdS.1 hdR.1
      ι ι 262144 hN hdS.2 hdR.2 O hO (W := W) (Entails.of_eq hpS)
      (Entails.of_eq ((pointsTo_congr (landed src.view dst.view fs fd g hg)).trans hpR))) $$ [HIS HIR Hs Hd HO HtS HrS HtR HrR]
  · isplitl [HIS]; · iexact HIS
    isplitl [HIR]; · iexact HIR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

end Cert.Talk

end
-- ==== Proof.Gather.lean ====
/-
  Call 0 (the all-gather): its body, instruction by instruction.
-/
module

public import proofs.«01_k».proof.Proof.GatherSteps

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

/-! ## The semaphores by number -/

theorem s0_0 : ((cc0_scratch0.slice (Rect.unit (s := S3) ![0] ![1] inb_S3_S1_0)).squeeze S_ squeezes_S1_S_).sem = (0 : Fin 32) := rfl
theorem s0_1 : ((cc0_scratch0.slice (Rect.unit (s := S3) ![1] ![1] inb_S3_S1_1)).squeeze S_ squeezes_S1_S_).sem = (1 : Fin 32) := rfl
theorem s0_2 : ((cc0_scratch0.slice (Rect.unit (s := S3) ![2] ![1] inb_S3_S1_2)).squeeze S_ squeezes_S1_S_).sem = (2 : Fin 32) := rfl
theorem s1_0 : ((cc0_scratch1.slice (Rect.unit (s := S3) ![0] ![1] inb_S3_S1_0)).squeeze S_ squeezes_S1_S_).sem = (3 : Fin 32) := rfl
theorem s1_1 : ((cc0_scratch1.slice (Rect.unit (s := S3) ![1] ![1] inb_S3_S1_1)).squeeze S_ squeezes_S1_S_).sem = (4 : Fin 32) := rfl
theorem s1_2 : ((cc0_scratch1.slice (Rect.unit (s := S3) ![2] ![1] inb_S3_S1_2)).squeeze S_ squeezes_S1_S_).sem = (5 : Fin 32) := rfl
theorem s2_0 : ((cc0_scratch2.slice (Rect.unit (s := S3) ![0] ![1] inb_S3_S1_0)).squeeze S_ squeezes_S1_S_).sem = (6 : Fin 32) := rfl
theorem s2_1 : ((cc0_scratch2.slice (Rect.unit (s := S3) ![1] ![1] inb_S3_S1_1)).squeeze S_ squeezes_S1_S_).sem = (7 : Fin 32) := rfl
theorem s2_2 : ((cc0_scratch2.slice (Rect.unit (s := S3) ![2] ![1] inb_S3_S1_2)).squeeze S_ squeezes_S1_S_).sem = (8 : Fin 32) := rfl
theorem s3_0 : ((cc0_scratch3.slice (Rect.unit (s := S3) ![0] ![1] inb_S3_S1_0)).squeeze S_ squeezes_S1_S_).sem = (9 : Fin 32) := rfl
theorem s3_1 : ((cc0_scratch3.slice (Rect.unit (s := S3) ![1] ![1] inb_S3_S1_1)).squeeze S_ squeezes_S1_S_).sem = (10 : Fin 32) := rfl
theorem s3_2 : ((cc0_scratch3.slice (Rect.unit (s := S3) ![2] ![1] inb_S3_S1_2)).squeeze S_ squeezes_S1_S_).sem = (11 : Fin 32) := rfl
theorem s4 : cc0_scratch4.sem = (12 : Fin 32) := rfl
theorem sbar0 : (SemArray.scalar (sig.barrier 0 rfl) : Sems sig S_).sem = (0 : Fin 3) := rfl

/-- The places, as the program writes them. -/
theorem plo_0 (d : Dev nD) : (Memref.whole main_v1).slice (Rect.unit (s := S4096x4096) (k0_off2 d 0#32) ![512, 4096] (k0_off2_inb d 0)) (fun _ => rfl) = loM d := rfl
theorem plo_1 (d : Dev nD) : (Memref.whole main_v1).slice (Rect.unit (s := S4096x4096) (k0_off2 d 1#32) ![512, 4096] (k0_off2_inb d 1)) (fun _ => rfl) = loM (rot 3 d) := lo_1 d
theorem plo_2 (d : Dev nD) : (Memref.whole main_v1).slice (Rect.unit (s := S4096x4096) (k0_off2 d 2#32) ![512, 4096] (k0_off2_inb d 2)) (fun _ => rfl) = loM (rot 2 d) := lo_2 d
theorem phi_0 (d : Dev nD) : (Memref.whole main_v1).slice (Rect.unit (s := S4096x4096) (k0_off3 d 0#32) ![512, 4096] (k0_off3_inb d 0)) (fun _ => rfl) = hiM d := rfl
theorem phi_1 (d : Dev nD) : (Memref.whole main_v1).slice (Rect.unit (s := S4096x4096) (k0_off3 d 1#32) ![512, 4096] (k0_off3_inb d 1)) (fun _ => rfl) = hiM (rot 1 d) := hi_1 d
theorem phi_2 (d : Dev nD) : (Memref.whole main_v1).slice (Rect.unit (s := S4096x4096) (k0_off3 d 2#32) ![512, 4096] (k0_off3_inb d 2)) (fun _ => rfl) = hiM (rot 2 d) := hi_2 d
theorem pblk (d : Dev nD) : (Memref.whole main_v1).slice (Rect.unit (s := S4096x4096) (k0_off1 d) ![1024, 4096] (k0_off1_inb d)) (fun _ => rfl) = blkM d := rfl
theorem pxlo : (Memref.whole main_arg0).slice (Rect.unit (s := S1024x4096) ![0, 0] ![512, 4096] inb_S1024x4096_S512x4096_0_0) (fun _ => rfl) = xloM := rfl
theorem pxhi : (Memref.whole main_arg0).slice (Rect.unit (s := S1024x4096) ![512, 0] ![512, 4096] inb_S1024x4096_S512x4096_512_0) (fun _ => rfl) = xhiM := rfl

variable (m : (ℓ : Loc nD τ sig) → Buf (Elt F) ℓ) (κ : GSem nD τ sig → ℕ) (c : Dev nD)

/-! ## Splitting the gathered array -/

/-- Half a block is a block's rows. -/
theorem blk_halves (p d : Dev nD) (f : S4096x4096.Idx → Elt F .f32) :
    ((vLoc p ↦[(blkM d).view.set]{fullShare} f) : sProp 𝕄) ⊣⊢ iprop((vLoc p ↦[(loM d).view.set]{fullShare} f) ∗ vLoc p ↦[(hiM d).view.set]{fullShare} f) := by
  rw [blk_set, lo_set, hi_set, rowsV_halves (1024 * d.val) (1024 * d.val + 512) _ (by omega) (by omega)]
  exact pointsTo_union (rowsV_disjoint (Or.inl le_rfl))

theorem devs4 (c : Dev nD) : (Finset.univ : Finset (Dev nD)) = [c, rot 1 c, rot 2 c, rot 3 c].toFinset := by revert c; decide
theorem devs4_nodup (c : Dev nD) : [c, rot 1 c, rot 2 c, rot 3 c].Nodup := by revert c; decide

/-- The gathered array on device p, as the four blocks. -/
theorem v_blocks (p c : Dev nD) (f : S4096x4096.Idx → Elt F .f32) :
    ((vLoc p ↦{fullShare} f) : sProp 𝕄) ⊣⊢ bigSepL [c, rot 1 c, rot 2 c, rot 3 c] (fun d => vLoc p ↦[(blkM d).view.set]{fullShare} f) := by
  rw [show ((vLoc p ↦{fullShare} f) : sProp 𝕄) = (vLoc p ↦[(Finset.univ : Finset (Dev nD)).biUnion fun d => (blkM d).view.set]{fullShare} f) from by
    rw [show (fun d : Dev nD => (blkM d).view.set) = fun d => rowsV (1024 * d.val) (1024 * d.val + 1024) from funext blk_set]
    exact congrArg (fun S => (vLoc p ↦[S]{fullShare} f : sProp 𝕄)) rowsV_blocks,
    pointsTo_biUnion _ _ (fun a _ b _ h => by
      rw [blk_set, blk_set]
      refine rowsV_disjoint ?_
      have : a.val ≠ b.val := fun e => h (Fin.ext e)
      omega),
    bigSep_eq_bigSepL_of_eq _ (devs4 c) (devs4_nodup c)]

/-- A device's `x` in halves. -/
theorem x_halves (p : Dev nD) (q : PosShare TreeShare) :
    ((xLoc p ↦{q} xOf m p) : sProp 𝕄) ⊣⊢ iprop((xLoc p ↦[xloM.view.set]{q} xOf m p) ∗ xLoc p ↦[xhiM.view.set]{q} xOf m p) := by
  rw [xlo_set, xhi_set, show ((xLoc p ↦{q} xOf m p) : sProp 𝕄) = (xLoc p ↦[rowsX 0 512 ∪ rowsX 512 1024]{q} xOf m p) from congrArg (fun S => (xLoc p ↦[S]{q} xOf m p : sProp 𝕄)) rowsX_halves]
  exact pointsTo_union (rowsX_disjoint (Or.inl le_rfl))

/-! ## What the body starts and ends with -/

/-- The positions at the device's own transfer cells, opened. -/
def gPos : sProp 𝕄 := iprop(atPos E0 (dmaAt c 0) 0 ∅ 0 ∗ atPos E0 (dmaAt c 1) 0 ∅ 0 ∗ atPos E0 (dmaAt c 2) 0 ∅ 0 ∗ atPos E0 (dmaAt c 3) 0 ∅ 0 ∗ atPos E0 (dmaAt c 4) 0 ∅ 0 ∗ atPos E0 (dmaAt c 5) 0 ∅ 0 ∗ atPos E0 (dmaAt c 6) 0 ∅ 0 ∗ atPos E0 (dmaAt c 7) 0 ∅ 0 ∗ atPos E0 (dmaAt c 8) 0 ∅ 0 ∗ atPos E0 (dmaAt c 9) 0 ∅ 0 ∗ atPos E0 (dmaAt c 10) 0 ∅ 0 ∗ atPos E0 (dmaAt c 11) 0 ∅ 0 ∗ atPos E0 (dmaAt c 12) 0 ∅ 0)
/-- That these cells are open. -/
def gReached : sProp 𝕄 := iprop(reached E0 (dmaAt c 0) 0 ∗ reached E0 (dmaAt c 1) 0 ∗ reached E0 (dmaAt c 2) 0 ∗ reached E0 (dmaAt c 3) 0 ∗ reached E0 (dmaAt c 4) 0 ∗ reached E0 (dmaAt c 5) 0 ∗ reached E0 (dmaAt c 6) 0 ∗ reached E0 (dmaAt c 7) 0 ∗ reached E0 (dmaAt c 8) 0 ∗ reached E0 (dmaAt c 9) 0 ∗ reached E0 (dmaAt c 10) 0 ∗ reached E0 (dmaAt c 11) 0 ∗ reached E0 (dmaAt c 12) 0)
/-- The device's payments, each a token. -/
def gToks : sProp 𝕄 := iprop(dutyTok E0 (regAt (rot 3 c) 0) 0 (c, 0) ∗ dutyTok E0 (regAt (rot 1 c) 0) 0 (c, 1) ∗ dutyTok E0 (dmaAt (c) 12) 0 (c, 2) ∗ dutyTok E0 (dmaAt (c) 0) 0 (c, 3) ∗ dutyTok E0 (dmaAt (rot 1 c) 3) 0 (c, 4) ∗ dutyTok E0 (dmaAt (c) 6) 0 (c, 5) ∗ dutyTok E0 (dmaAt (rot 3 c) 9) 0 (c, 6) ∗ dutyTok E0 (dmaAt (c) 1) 0 (c, 7) ∗ dutyTok E0 (dmaAt (rot 1 c) 4) 0 (c, 8) ∗ dutyTok E0 (dmaAt (c) 7) 0 (c, 9) ∗ dutyTok E0 (dmaAt (rot 3 c) 10) 0 (c, 10) ∗ dutyTok E0 (dmaAt (c) 2) 0 (c, 11) ∗ dutyTok E0 (dmaAt (rot 1 c) 5) 0 (c, 12) ∗ dutyTok E0 (dmaAt (c) 8) 0 (c, 13) ∗ dutyTok E0 (dmaAt (rot 3 c) 11) 0 (c, 14))
/-- What it may take at its barrier and at its receiving cells. -/
def gCreds : sProp 𝕄 := iprop(cred (tallyAt (regAt c 0) 1 2) ∗ cred (tallyAt (dmaAt c 3) 2 262144) ∗ cred (tallyAt (dmaAt c 9) 2 262144) ∗ cred (tallyAt (dmaAt c 4) 3 262144) ∗ cred (tallyAt (dmaAt c 10) 3 262144) ∗ cred (tallyAt (dmaAt c 5) 4 262144) ∗ cred (tallyAt (dmaAt c 11) 4 262144))
/-- The device's own transfer cells, closed. -/
def gZeros : sProp 𝕄 := iprop(semVal (dmaAt c 0) 0 ∗ semVal (dmaAt c 1) 0 ∗ semVal (dmaAt c 2) 0 ∗ semVal (dmaAt c 3) 0 ∗ semVal (dmaAt c 4) 0 ∗ semVal (dmaAt c 5) 0 ∗ semVal (dmaAt c 6) 0 ∗ semVal (dmaAt c 7) 0 ∗ semVal (dmaAt c 8) 0 ∗ semVal (dmaAt c 9) 0 ∗ semVal (dmaAt c 10) 0 ∗ semVal (dmaAt c 11) 0 ∗ semVal (dmaAt c 12) 0)

instance : Persistent (gReached (F := F) c) := by unfold gReached; infer_instance

theorem barR_out : (barR (rot 3 c) : sProp 𝕄) = iprop((loAny c (rot 3 c) ∗ loAny c (rot 2 c) ∗ loAny c (rot 1 c))
    ∗ reached E0 (dmaAt c 3) 0 ∗ reached E0 (dmaAt c 4) 0 ∗ reached E0 (dmaAt c 5) 0) := by
  have h1 : rot 1 (rot 3 c) = c := by revert c; decide
  have h2 : rot 3 (rot 3 c) = rot 2 c := by revert c; decide
  have h3 : rot 2 (rot 3 c) = rot 1 c := by revert c; decide
  unfold barR; rw [h1, h2, h3]
theorem barL_out : (barL (rot 1 c) : sProp 𝕄) = iprop((hiAny c (rot 1 c) ∗ hiAny c (rot 2 c) ∗ hiAny c (rot 3 c))
    ∗ reached E0 (dmaAt c 9) 0 ∗ reached E0 (dmaAt c 10) 0 ∗ reached E0 (dmaAt c 11) 0) := by
  have h1 : rot 3 (rot 1 c) = c := by revert c; decide
  have h2 : rot 1 (rot 1 c) = rot 2 c := by revert c; decide
  have h3 : rot 2 (rot 1 c) = rot 3 c := by revert c; decide
  unfold barL; rw [h1, h2, h3]

/-- Row i of what the device pays. -/
theorem pays0 (i : ℕ) {d : Dev nD} {s ι u : ℕ} (h : (rows0 c 0)[i]? = some (d.val, s, 0, ι, u)) :
    (c, i) ∈ (Rd0 m).duties ((d.tc : Thread nD τ), (bar0 :: dorm0 0).getD s bar0) 0 ∧ (Rd0 m).amount ((d.tc : Thread nD τ), (bar0 :: dorm0 0).getD s bar0) 0 (c, i) = u :=
  Sched.row_pays bar0 dorm0 hsem0 hrow0 (fun _ => 1) hok0 (pay0 m) (c := c) (j := 0) h (cellN_val bar0 (dorm0 0) d s) rfl

/-- What a receiving cell is paid, seen from the device that pays. -/
theorem loPay3 : (dmaPay0 m (rot 1 c) 3 : sProp 𝕄) = (vLoc (rot 1 c) ↦[(loM c).view.set]{fullShare} gath m) := by
  rw [show dmaPay0 m (rot 1 c) 3 = loAt m (rot 1 c) (rot 3 (rot 1 c)) from rfl, show rot 3 (rot 1 c) = c by revert c; decide]; rfl
theorem loPay4 : (dmaPay0 m (rot 1 c) 4 : sProp 𝕄) = (vLoc (rot 1 c) ↦[(loM (rot 3 c)).view.set]{fullShare} gath m) := by
  rw [show dmaPay0 m (rot 1 c) 4 = loAt m (rot 1 c) (rot 2 (rot 1 c)) from rfl, show rot 2 (rot 1 c) = rot 3 c by revert c; decide]; rfl
theorem loPay5 : (dmaPay0 m (rot 1 c) 5 : sProp 𝕄) = (vLoc (rot 1 c) ↦[(loM (rot 2 c)).view.set]{fullShare} gath m) := by
  rw [show dmaPay0 m (rot 1 c) 5 = loAt m (rot 1 c) (rot 1 (rot 1 c)) from rfl, show rot 1 (rot 1 c) = rot 2 c by revert c; decide]; rfl
theorem hiPay9 : (dmaPay0 m (rot 3 c) 9 : sProp 𝕄) = (vLoc (rot 3 c) ↦[(hiM c).view.set]{fullShare} gath m) := by
  rw [show dmaPay0 m (rot 3 c) 9 = hiAt m (rot 3 c) (rot 1 (rot 3 c)) from rfl, show rot 1 (rot 3 c) = c by revert c; decide]; rfl
theorem hiPay10 : (dmaPay0 m (rot 3 c) 10 : sProp 𝕄) = (vLoc (rot 3 c) ↦[(hiM (rot 1 c)).view.set]{fullShare} gath m) := by
  rw [show dmaPay0 m (rot 3 c) 10 = hiAt m (rot 3 c) (rot 2 (rot 3 c)) from rfl, show rot 2 (rot 3 c) = rot 1 c by revert c; decide]; rfl
theorem hiPay11 : (dmaPay0 m (rot 3 c) 11 : sProp 𝕄) = (vLoc (rot 3 c) ↦[(hiM (rot 2 c)).view.set]{fullShare} gath m) := by
  rw [show dmaPay0 m (rot 3 c) 11 = hiAt m (rot 3 c) (rot 3 (rot 3 c)) from rfl, show rot 3 (rot 3 c) = rot 2 c by revert c; decide]; rfl

set_option maxHeartbeats 8000000 in
/-- The body: the barrier, the local copy, and the three hops. -/
theorem gatherBody {O : Dev nD → CellTallies nD τ sig ℕ} (hO : Above 9 6 O) (Kt : PUnit → sProp (MT nD τ sig ℕ (Elt F) ℕ UU ℕ)) :
    iprop(invs0 m κ ∗ levAts (L 9) lv ∗ ow c (owed0 c (O c) 0) ∗ atPos E0 (regAt c 0) 0 ∅ 0 ∗ (reached E0 (regAt (rot 3 c) 0) 0 ∗ reached E0 (regAt (rot 1 c) 0) 0)
        ∗ gPos c ∗ gReached c ∗ gToks c ∗ gCreds c ∗ (xLoc c ↦{fullShare} xOf m c) ∗ (∃ f : S4096x4096.Idx → Elt F .f32, vLoc c ↦{fullShare} f)
        ∗ ((ow c (O c) ∗ atPos E0 (regAt c 0) 1 ∅ 0 ∗ gZeros c ∗ (xLoc c ↦{fullShare} xOf m c) ∗ (vLoc c ↦{fullShare} gath m)) -∗ Kt ⟨⟩))
      ⊢ wp frame (wpE (defs₀ (F := F)) 𝒱₀ c none) Set.univ (bodyAt0 (F := F) t0_0) Kt := by
  simp only [bodyAt0, cc0__ag_body_eq_skeleton]; unfold cc0__ag_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  simp only [s0_0, s0_1, s0_2, s1_0, s1_1, s1_2, s2_0, s2_1, s2_2, s3_0, s3_1, s3_2, s4, sbar0, dev0_1, dev0_2, dev0_3, dev0_4, dev0_5, dev0_6, dev0_7, dev0_8, plo_1, plo_2, phi_1, phi_2]
  unfold gPos gReached gToks gCreds gZeros
  iintro ⟨#HI, #Hlev, HO, Hbar, ⟨#Hr3, #Hr1⟩, ⟨P0, P1, P2, P3, P4, P5, P6, P7, P8, P9, P10, P11, P12⟩,
    ⟨#R0, #R1, #R2, #R3, #R4, #R5, #R6, #R7, #R8, #R9, #R10, #R11, #R12⟩,
    ⟨T0, T1, T2, T3, T4, T5, T6, T7, T8, T9, T10, T11, T12, T13, T14⟩, ⟨CB, C3, C9, C4, C10, C5, C11⟩, HX, ⟨%f, HV⟩, HK⟩
  -- the gathered array in halves, `x` in two shares and one of these in halves
  ihave HV' := ((v_blocks c c f).1.trans (Entails.of_eq (show _ = iprop((vLoc c ↦[(blkM c).view.set]{fullShare} f) ∗ (vLoc c ↦[(blkM (rot 1 c)).view.set]{fullShare} f)
      ∗ (vLoc c ↦[(blkM (rot 2 c)).view.set]{fullShare} f) ∗ (vLoc c ↦[(blkM (rot 3 c)).view.set]{fullShare} f)) from rfl))) $$ HV
  icases HV' with ⟨HV0, HV1, HV2, HV3⟩
  ihave HV1' := ((blk_halves c (rot 1 c) f).1) $$ HV1
  ihave HV2' := ((blk_halves c (rot 2 c) f).1) $$ HV2
  ihave HV3' := ((blk_halves c (rot 3 c) f).1) $$ HV3
  icases HV1' with ⟨L1, H1⟩
  icases HV2' with ⟨L2, H2⟩
  icases HV3' with ⟨L3, H3⟩
  ihave HX' := ((pointsTo_share (PosShare.mem_left_op_right fullShare)).1) $$ HX
  icases HX' with ⟨HXl, HXr⟩
  ihave HXr' := ((x_halves m c fullShare.right).1) $$ HXr
  icases HXr' with ⟨HXlo, HXhi⟩
  -- the two barrier signals
  iapply (sig0 m κ c (owed0 c (O c) 1) (rot 3 c) 0 (pays0 m c 0 (d := rot 3 c) (s := 0) (ι := 1) (u := 1) rfl)
      (owed0_step c (O c) 0 (d := rot 3 c) (s := 0) (r := 0) (ι := 1) (u := 1) rfl)) $$ [HO T0 L1 L2 L3]
  · isplitr; · iexact HI
    isplitl [HO]; · iexact HO
    isplitl [T0]; · iexact T0
    isplitr; · iexact Hr3
    rw [show pay0 m (regAt (rot 3 c) 0) 0 (c, 0) = barR (rot 3 c) from rfl, barR_out]
    unfold loAny
    isplitl [L1 L2 L3]
    · isplitl [L3]; · iexists f; iexact L3
      isplitl [L2]; · iexists f; iexact L2
      iexists f; iexact L1
    isplitr; · iexact R3
    isplitr; · iexact R4
    iexact R5
  iintro HO
  iapply (sig0 m κ c (owed0 c (O c) 2) (rot 1 c) 1 (pays0 m c 1 (d := rot 1 c) (s := 0) (ι := 1) (u := 1) rfl)
      (owed0_step c (O c) 1 (d := rot 1 c) (s := 0) (r := 0) (ι := 1) (u := 1) rfl)) $$ [HO T1 H1 H2 H3]
  · isplitr; · iexact HI
    isplitl [HO]; · iexact HO
    isplitl [T1]; · iexact T1
    isplitr; · iexact Hr1
    rw [show pay0 m (regAt (rot 1 c) 0) 0 (c, 1) = barL (rot 1 c) from rfl, barL_out]
    unfold hiAny
    isplitl [H1 H2 H3]
    · isplitl [H1]; · iexists f; iexact H1
      isplitl [H2]; · iexists f; iexact H2
      iexists f; iexact H3
    isplitr; · iexact R9
    isplitr; · iexact R10
    iexact R11
  iintro HO
  iapply (barWait0 m κ c hO 2 (by decide)) $$ [HO CB Hbar]
  · isplitr; · iexact HI
    isplitr; · iexact Hlev
    isplitl [HO]; · iexact HO
    isplitl [CB]; · iexact CB
    iexact Hbar
  iintro ⟨HO, Hbar, HR, HL⟩
  unfold barR barL loAny hiAny
  icases HR with ⟨⟨⟨%g0, G0⟩, ⟨%g1, G1⟩, ⟨%g2, G2⟩⟩, #RR3, #RR4, #RR5⟩
  icases HL with ⟨⟨⟨%e0, E0'⟩, ⟨%e1, E1'⟩, ⟨%e2, E2'⟩⟩, #RL9, #RL10, #RL11⟩
  -- the local copy
  iapply (copy0 m κ c (pays0 m c 2 (d := c) (s := 13) (ι := 5) (u := 524288) rfl) f) $$ [HXl HV0 T2]
  · isplitr; · iexact HI
    isplitl [HXl]; · iexact HXl
    isplitl [HV0]; · iexact HV0
    isplitl [T2]; · iexact T2
    iexact R12
  iintro C12
  -- the first hop: the device's own halves
  ihave B0 := (Entails.of_eq (show ((xLoc c ↦[xloM.view.set]{fullShare.right} xOf m c) : sProp 𝕄) = dmaPay0 m c (0 : Fin 32).val from rfl)) $$ HXlo
  iapply (send0 m κ c (owed0 c (O c) 3) (rot 1 c) (dev0_3 c).symm 0 3 (by decide) (by decide) 3 4 2 (pays0 m c 3 (d := c) (s := 1) (ι := 2) (u := 262144) rfl)
      (pays0 m c 4 (d := rot 1 c) (s := 4) (ι := 2) (u := 262144) rfl)
      (owed0_step c (O c) 2 (d := rot 1 c) (s := 4) (r := 0) (ι := 2) (u := 262144) rfl) (src := xloM) (dst := loM c) (q := fullShare.right) (fs := xOf m c) rfl g0 (gath m) (read_lo m c) rfl (loPay3 m c).symm) $$ [HO B0 G0 T3 T4]
  · isplitr; · iexact HI
    isplitl [HO]; · iexact HO
    isplitl [B0]; · iexact B0
    isplitl [G0]; · iexact G0
    isplitl [T3]
    · isplitl [T3]; · iexact T3
      iexact R0
    isplitl [T4]; · iexact T4
    iexact RR3
  iintro ⟨C0, HO⟩
  ihave B6 := (Entails.of_eq (show ((xLoc c ↦[xhiM.view.set]{fullShare.right} xOf m c) : sProp 𝕄) = dmaPay0 m c (6 : Fin 32).val from rfl)) $$ HXhi
  iapply (send0 m κ c (owed0 c (O c) 4) (rot 3 c) (dev0_4 c).symm 6 9 (by decide) (by decide) 5 6 2 (pays0 m c 5 (d := c) (s := 7) (ι := 2) (u := 262144) rfl)
      (pays0 m c 6 (d := rot 3 c) (s := 10) (ι := 2) (u := 262144) rfl)
      (owed0_step c (O c) 3 (d := rot 3 c) (s := 10) (r := 0) (ι := 2) (u := 262144) rfl) (src := xhiM) (dst := hiM c) (q := fullShare.right) (fs := xOf m c) rfl e0 (gath m) (read_hi m c) rfl (hiPay9 m c).symm) $$ [HO B6 E0' T5 T6]
  · isplitr; · iexact HI
    isplitl [HO]; · iexact HO
    isplitl [B6]; · iexact B6
    isplitl [E0']; · iexact E0'
    isplitl [T5]
    · isplitl [T5]; · iexact T5
      iexact R6
    isplitl [T6]; · iexact T6
    iexact RL9
  iintro ⟨C6, HO⟩
  iapply (wait0 m κ c hO 4 0 (by decide) 2 262144 (x := (c, 3)) rfl rfl (by decide) (by decide) (dst := xloM) rfl) $$ [HO C0 P0]
  · isplitr; · iexact HI
    isplitr; · iexact Hlev
    isplitl [HO]; · iexact HO
    isplitl [C0]; · iexact C0
    iexact P0
  iintro ⟨HO, P0, HXlo⟩
  iapply (wait0 m κ c hO 4 3 (by decide) 2 262144 (x := (rot 3 c, 4)) rfl rfl (by decide) (by decide) (dst := loM c) rfl) $$ [HO C3 P3]
  · isplitr; · iexact HI
    isplitr; · iexact Hlev
    isplitl [HO]; · iexact HO
    isplitl [C3]; · iexact C3
    iexact P3
  iintro ⟨HO, P3, A3⟩
  iapply (wait0 m κ c hO 4 6 (by decide) 2 262144 (x := (c, 5)) rfl rfl (by decide) (by decide) (dst := xhiM) rfl) $$ [HO C6 P6]
  · isplitr; · iexact HI
    isplitr; · iexact Hlev
    isplitl [HO]; · iexact HO
    isplitl [C6]; · iexact C6
    iexact P6
  iintro ⟨HO, P6, HXhi⟩
  iapply (wait0 m κ c hO 4 9 (by decide) 2 262144 (x := (rot 1 c, 6)) rfl rfl (by decide) (by decide) (dst := hiM c) rfl) $$ [HO C9 P9]
  · isplitr; · iexact HI
    isplitr; · iexact Hlev
    isplitl [HO]; · iexact HO
    isplitl [C9]; · iexact C9
    iexact P9
  iintro ⟨HO, P9, A9⟩
  -- the second
  ihave B1 := (Entails.of_eq (show (dmaPay0 m c (3 : Fin 32).val : sProp 𝕄) = dmaPay0 m c (1 : Fin 32).val from rfl)) $$ A3
  iapply (send0 m κ c (owed0 c (O c) 5) (rot 1 c) (dev0_5 c).symm 1 4 (by decide) (by decide) 7 8 3 (pays0 m c 7 (d := c) (s := 2) (ι := 3) (u := 262144) rfl)
      (pays0 m c 8 (d := rot 1 c) (s := 5) (ι := 3) (u := 262144) rfl)
      (owed0_step c (O c) 4 (d := rot 1 c) (s := 5) (r := 0) (ι := 3) (u := 262144) rfl) (src := loM (rot 3 c)) (dst := loM (rot 3 c)) (q := fullShare) (fs := gath m) rfl g1 (gath m) rfl rfl (loPay4 m c).symm) $$ [HO B1 G1 T7 T8]
  · isplitr; · iexact HI
    isplitl [HO]; · iexact HO
    isplitl [B1]; · iexact B1
    isplitl [G1]; · iexact G1
    isplitl [T7]
    · isplitl [T7]; · iexact T7
      iexact R1
    isplitl [T8]; · iexact T8
    iexact RR4
  iintro ⟨C1, HO⟩
  ihave B7 := (Entails.of_eq (show (dmaPay0 m c (9 : Fin 32).val : sProp 𝕄) = dmaPay0 m c (7 : Fin 32).val from rfl)) $$ A9
  iapply (send0 m κ c (owed0 c (O c) 6) (rot 3 c) (dev0_6 c).symm 7 10 (by decide) (by decide) 9 10 3 (pays0 m c 9 (d := c) (s := 8) (ι := 3) (u := 262144) rfl)
      (pays0 m c 10 (d := rot 3 c) (s := 11) (ι := 3) (u := 262144) rfl)
      (owed0_step c (O c) 5 (d := rot 3 c) (s := 11) (r := 0) (ι := 3) (u := 262144) rfl) (src := hiM (rot 1 c)) (dst := hiM (rot 1 c)) (q := fullShare) (fs := gath m) rfl e1 (gath m) rfl rfl (hiPay10 m c).symm) $$ [HO B7 E1' T9 T10]
  · isplitr; · iexact HI
    isplitl [HO]; · iexact HO
    isplitl [B7]; · iexact B7
    isplitl [E1']; · iexact E1'
    isplitl [T9]
    · isplitl [T9]; · iexact T9
      iexact R7
    isplitl [T10]; · iexact T10
    iexact RL10
  iintro ⟨C7, HO⟩
  iapply (wait0 m κ c hO 6 1 (by decide) 3 262144 (x := (c, 7)) rfl rfl (by decide) (by decide) (dst := loM (rot 3 c)) rfl) $$ [HO C1 P1]
  · isplitr; · iexact HI
    isplitr; · iexact Hlev
    isplitl [HO]; · iexact HO
    isplitl [C1]; · iexact C1
    iexact P1
  iintro ⟨HO, P1, A1⟩
  iapply (wait0 m κ c hO 6 4 (by decide) 3 262144 (x := (rot 3 c, 8)) rfl rfl (by decide) (by decide) (dst := loM (rot 3 c)) rfl) $$ [HO C4 P4]
  · isplitr; · iexact HI
    isplitr; · iexact Hlev
    isplitl [HO]; · iexact HO
    isplitl [C4]; · iexact C4
    iexact P4
  iintro ⟨HO, P4, A4⟩
  iapply (wait0 m κ c hO 6 7 (by decide) 3 262144 (x := (c, 9)) rfl rfl (by decide) (by decide) (dst := hiM (rot 1 c)) rfl) $$ [HO C7 P7]
  · isplitr; · iexact HI
    isplitr; · iexact Hlev
    isplitl [HO]; · iexact HO
    isplitl [C7]; · iexact C7
    iexact P7
  iintro ⟨HO, P7, A7⟩
  iapply (wait0 m κ c hO 6 10 (by decide) 3 262144 (x := (rot 1 c, 10)) rfl rfl (by decide) (by decide) (dst := hiM (rot 1 c)) rfl) $$ [HO C10 P10]
  · isplitr; · iexact HI
    isplitr; · iexact Hlev
    isplitl [HO]; · iexact HO
    isplitl [C10]; · iexact C10
    iexact P10
  iintro ⟨HO, P10, A10⟩
  -- the third
  ihave B2 := (Entails.of_eq (show (dmaPay0 m c (4 : Fin 32).val : sProp 𝕄) = dmaPay0 m c (2 : Fin 32).val from rfl)) $$ A4
  iapply (send0 m κ c (owed0 c (O c) 7) (rot 1 c) (dev0_7 c).symm 2 5 (by decide) (by decide) 11 12 4 (pays0 m c 11 (d := c) (s := 3) (ι := 4) (u := 262144) rfl)
      (pays0 m c 12 (d := rot 1 c) (s := 6) (ι := 4) (u := 262144) rfl)
      (owed0_step c (O c) 6 (d := rot 1 c) (s := 6) (r := 0) (ι := 4) (u := 262144) rfl) (src := loM (rot 2 c)) (dst := loM (rot 2 c)) (q := fullShare) (fs := gath m) rfl g2 (gath m) rfl rfl (loPay5 m c).symm) $$ [HO B2 G2 T11 T12]
  · isplitr; · iexact HI
    isplitl [HO]; · iexact HO
    isplitl [B2]; · iexact B2
    isplitl [G2]; · iexact G2
    isplitl [T11]
    · isplitl [T11]; · iexact T11
      iexact R2
    isplitl [T12]; · iexact T12
    iexact RR5
  iintro ⟨C2, HO⟩
  ihave B8 := (Entails.of_eq (show (dmaPay0 m c (10 : Fin 32).val : sProp 𝕄) = dmaPay0 m c (8 : Fin 32).val from rfl)) $$ A10
  iapply (send0 m κ c (owed0 c (O c) 8) (rot 3 c) (dev0_8 c).symm 8 11 (by decide) (by decide) 13 14 4 (pays0 m c 13 (d := c) (s := 9) (ι := 4) (u := 262144) rfl)
      (pays0 m c 14 (d := rot 3 c) (s := 12) (ι := 4) (u := 262144) rfl)
      (owed0_step c (O c) 7 (d := rot 3 c) (s := 12) (r := 0) (ι := 4) (u := 262144) rfl) (src := hiM (rot 2 c)) (dst := hiM (rot 2 c)) (q := fullShare) (fs := gath m) rfl e2 (gath m) rfl rfl (hiPay11 m c).symm) $$ [HO B8 E2' T13 T14]
  · isplitr; · iexact HI
    isplitl [HO]; · iexact HO
    isplitl [B8]; · iexact B8
    isplitl [E2']; · iexact E2'
    isplitl [T13]
    · isplitl [T13]; · iexact T13
      iexact R8
    isplitl [T14]; · iexact T14
    iexact RL11
  iintro ⟨C8, HO⟩
  iapply (wait0 m κ c hO 8 2 (by decide) 4 262144 (x := (c, 11)) rfl rfl (by decide) (by decide) (dst := loM (rot 2 c)) rfl) $$ [HO C2 P2]
  · isplitr; · iexact HI
    isplitr; · iexact Hlev
    isplitl [HO]; · iexact HO
    isplitl [C2]; · iexact C2
    iexact P2
  iintro ⟨HO, P2, A2⟩
  iapply (wait0 m κ c hO 8 5 (by decide) 4 262144 (x := (rot 3 c, 12)) rfl rfl (by decide) (by decide) (dst := loM (rot 2 c)) rfl) $$ [HO C5 P5]
  · isplitr; · iexact HI
    isplitr; · iexact Hlev
    isplitl [HO]; · iexact HO
    isplitl [C5]; · iexact C5
    iexact P5
  iintro ⟨HO, P5, A5⟩
  iapply (wait0 m κ c hO 8 8 (by decide) 4 262144 (x := (c, 13)) rfl rfl (by decide) (by decide) (dst := hiM (rot 2 c)) rfl) $$ [HO C8 P8]
  · isplitr; · iexact HI
    isplitr; · iexact Hlev
    isplitl [HO]; · iexact HO
    isplitl [C8]; · iexact C8
    iexact P8
  iintro ⟨HO, P8, A8⟩
  iapply (wait0 m κ c hO 8 11 (by decide) 4 262144 (x := (rot 1 c, 14)) rfl rfl (by decide) (by decide) (dst := hiM (rot 2 c)) rfl) $$ [HO C11 P11]
  · isplitr; · iexact HI
    isplitr; · iexact Hlev
    isplitl [HO]; · iexact HO
    isplitl [C11]; · iexact C11
    iexact P11
  iintro ⟨HO, P11, A11⟩
  iapply (wait0 m κ c hO 8 12 (by decide) 5 524288 (x := (c, 2)) rfl rfl (by decide) (by decide) (dst := blkM c) rfl) $$ [HO C12 P12]
  · isplitr; · iexact HI
    isplitr; · iexact Hlev
    isplitl [HO]; · iexact HO
    isplitl [C12]; · iexact C12
    iexact P12
  iintro ⟨HO, P12, A12⟩
  rw [wp_ret]
  imodintro
  iapply HK
  -- `x` and the gathered array put together again
  ihave A12 := (Entails.of_eq (show (dmaPay0 m c (12 : Fin 32).val : sProp 𝕄) = iprop((xLoc c ↦{fullShare.left} xOf m c) ∗ vLoc c ↦[(blkM c).view.set]{fullShare} gath m) from rfl)) $$ A12
  icases A12 with ⟨HXl, HV0⟩
  ihave HX0 := (Entails.of_eq (show (dmaPay0 m c (0 : Fin 32).val : sProp 𝕄) = (xLoc c ↦[xloM.view.set]{fullShare.right} xOf m c) from rfl)) $$ HXlo
  ihave HX6 := (Entails.of_eq (show (dmaPay0 m c (6 : Fin 32).val : sProp 𝕄) = (xLoc c ↦[xhiM.view.set]{fullShare.right} xOf m c) from rfl)) $$ HXhi
  ihave L3 := (Entails.of_eq (show (dmaPay0 m c (1 : Fin 32).val : sProp 𝕄) = (vLoc c ↦[(loM (rot 3 c)).view.set]{fullShare} gath m) from rfl)) $$ A1
  ihave L2 := (Entails.of_eq (show (dmaPay0 m c (2 : Fin 32).val : sProp 𝕄) = (vLoc c ↦[(loM (rot 2 c)).view.set]{fullShare} gath m) from rfl)) $$ A2
  ihave L1 := (Entails.of_eq (show (dmaPay0 m c (5 : Fin 32).val : sProp 𝕄) = (vLoc c ↦[(loM (rot 1 c)).view.set]{fullShare} gath m) from rfl)) $$ A5
  ihave H1 := (Entails.of_eq (show (dmaPay0 m c (7 : Fin 32).val : sProp 𝕄) = (vLoc c ↦[(hiM (rot 1 c)).view.set]{fullShare} gath m) from rfl)) $$ A7
  ihave H2 := (Entails.of_eq (show (dmaPay0 m c (8 : Fin 32).val : sProp 𝕄) = (vLoc c ↦[(hiM (rot 2 c)).view.set]{fullShare} gath m) from rfl)) $$ A8
  ihave H3 := (Entails.of_eq (show (dmaPay0 m c (11 : Fin 32).val : sProp 𝕄) = (vLoc c ↦[(hiM (rot 3 c)).view.set]{fullShare} gath m) from rfl)) $$ A11
  isplitl [HO]; · rw [show owed0 c (O c) 8 = O c from rfl]; iexact HO
  isplitl [Hbar]; · iexact Hbar
  isplitl [P0 P1 P2 P3 P4 P5 P6 P7 P8 P9 P10 P11 P12]
  · isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    iexact P12
  isplitl [HXl HX0 HX6]
  · iapply ((pointsTo_share (PosShare.mem_left_op_right fullShare)).2)
    isplitl [HXl]; · iexact HXl
    iapply ((x_halves m c fullShare.right).2)
    isplitl [HX0]; · iexact HX0
    iexact HX6
  iapply ((Entails.of_eq (show iprop((vLoc c ↦[(blkM c).view.set]{fullShare} gath m)
      ∗ (vLoc c ↦[(blkM (rot 1 c)).view.set]{fullShare} gath m) ∗ (vLoc c ↦[(blkM (rot 2 c)).view.set]{fullShare} gath m)
      ∗ (vLoc c ↦[(blkM (rot 3 c)).view.set]{fullShare} gath m)) = _ from rfl)).trans (v_blocks (F := F) c c (gath m)).2)
  isplitl [HV0]; · iexact HV0
  isplitl [L1 H1]
  · iapply (blk_halves c (rot 1 c) (gath m)).2
    isplitl [L1]; · iexact L1
    iexact H1
  isplitl [L2 H2]
  · iapply (blk_halves c (rot 2 c) (gath m)).2
    isplitl [L2]; · iexact L2
    iexact H2
  iapply (blk_halves c (rot 3 c) (gath m)).2
  isplitl [L3]; · iexact L3
  iexact H3

end Cert.Talk

end
-- ==== Proof.GemmBody.lean ====
/-
  Call 1 (the product): one point's body. It stores the point's tile of relu(x w), and folds the tile's maximum into the running maximum that it keeps in
  scalar memory; the first point starts that maximum at 0, the last one writes it out.
-/
module

public import proofs.«01_k».proof.Proof.Sched
public import Idealize.ShloMosaic.Lib.Tactic
public import Idealize.ShloMosaic.Lib.WordCmp
public import Idealize.ShloMosaic.Lib.VecWindow
public import Idealize.ShloMosaic.Lib.Pipeline.FrameBody
public import Idealize.ShloMosaic.Lib.Pipeline.Value

@[expose] public section

noncomputable section

namespace Cert.Talk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

/-- Whether a point is the first one, as the body computes it. -/
abbrev first1 (i : grid1.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- What the running maximum is before a point's tile is folded in. -/
def seed1 (i : grid1.Coords) (r : Elt F .f32) : Elt F .f32 := if first1 i = 1#1 then Scalar.ofBits .f32 0x00000000#32 else r

/-- The one place of a scalar kept in a one-element array. -/
abbrev o1 : S1.Idx := fun a => ⟨0, by fin_cases a; decide⟩

theorem eq_o1 (x : S1.Idx) : x = o1 := funext fun a => Fin.ext (by
  have h : (x a).val < S1.size a := (x a).isLt
  have e : S1.size a = 1 := by fin_cases a; rfl
  show (x a).val = 0; omega)

/-- The first point's body. -/
theorem gemmFirst (c : Dev nD) (i : grid1.Coords) (arg2 : Memref sig .tc .vmem S256x4096 .f32) (harg2 : arg2.IsWhole) (arg3 : Memref sig .tc .vmem S4096x1024 .f32) (harg3 : arg3.IsWhole)
    (arg4 : Memref sig .tc .vmem S256x1024 .f32) (harg4 : arg4.IsWhole) (arg5 : Memref sig .tc .vmem S1x1 .f32) (harg5 : arg5.IsWhole)
    (x : Vec F S256x4096 .f32) (w : Vec F S4096x1024 .f32) (r : S1.Idx → Elt F .f32) (K : PUnit → sProp 𝕄) (h1 : first1 i = 1#1) (h2 : ¬ k1_cond2 i = 1#1) :
    iprop(owns (c : Thread nD τ) arg2 fullShare x ∗ owns (c : Thread nD τ) arg3 fullShare w ∗ (∃ d, owns (c : Thread nD τ) arg4 fullShare d)
        ∗ owns (c : Thread nD τ) (Memref.whole cc1_scratch0) fullShare r
        ∗ ((owns (c : Thread nD τ) arg2 fullShare x ∗ owns (c : Thread nD τ) arg3 fullShare w ∗ owns (c : Thread nD τ) arg4 fullShare (k1_pay1 x w)
          ∗ owns (c : Thread nD τ) (Memref.whole cc1_scratch0) fullShare (fun _ => k1_pay2 x w (seed1 i (r o1)))) -∗ K ⟨⟩))
      ⊢ wp frame (wpE (defs₀ (F := F)) Variants.none c none) Set.univ (cc1__gemm_body i arg2 harg2 arg3 harg3 arg4 harg4 arg5 harg5 (Memref.whole cc1_scratch0) (Memref.isWhole_whole _)) K := by
  simp only [cc1__gemm_body_eq_skeleton]; unfold cc1__gemm_body_skel
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full]
  iexists _; isplitr
  swap; · iexact H3
  ipureintro
  refine (View.read_writes_full (Memref.whole cc1_scratch0).view _ inb_S1_S1_0 _ _).trans ?_
  rw [View.readAt_full, View.readAt_full, seed1, if_pos h1]
  rfl

/-- A point between. -/
theorem gemmMid (c : Dev nD) (i : grid1.Coords) (arg2 : Memref sig .tc .vmem S256x4096 .f32) (harg2 : arg2.IsWhole) (arg3 : Memref sig .tc .vmem S4096x1024 .f32) (harg3 : arg3.IsWhole)
    (arg4 : Memref sig .tc .vmem S256x1024 .f32) (harg4 : arg4.IsWhole) (arg5 : Memref sig .tc .vmem S1x1 .f32) (harg5 : arg5.IsWhole)
    (x : Vec F S256x4096 .f32) (w : Vec F S4096x1024 .f32) (r : S1.Idx → Elt F .f32) (K : PUnit → sProp 𝕄) (h1 : ¬ first1 i = 1#1) (h2 : ¬ k1_cond2 i = 1#1) :
    iprop(owns (c : Thread nD τ) arg2 fullShare x ∗ owns (c : Thread nD τ) arg3 fullShare w ∗ (∃ d, owns (c : Thread nD τ) arg4 fullShare d)
        ∗ owns (c : Thread nD τ) (Memref.whole cc1_scratch0) fullShare r
        ∗ ((owns (c : Thread nD τ) arg2 fullShare x ∗ owns (c : Thread nD τ) arg3 fullShare w ∗ owns (c : Thread nD τ) arg4 fullShare (k1_pay1 x w)
          ∗ owns (c : Thread nD τ) (Memref.whole cc1_scratch0) fullShare (fun _ => k1_pay2 x w (seed1 i (r o1)))) -∗ K ⟨⟩))
      ⊢ wp frame (wpE (defs₀ (F := F)) Variants.none c none) Set.univ (cc1__gemm_body i arg2 harg2 arg3 harg3 arg4 harg4 arg5 harg5 (Memref.whole cc1_scratch0) (Memref.isWhole_whole _)) K := by
  simp only [cc1__gemm_body_eq_skeleton]; unfold cc1__gemm_body_skel
  unfold owns
  iintro ⟨⟨%f0, %hf0, H0⟩, ⟨%f1, %hf1, H1⟩, ⟨%d2, %f2, -, H2⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full]
  iexists _; isplitr
  swap; · iexact H3
  ipureintro
  refine (View.read_writes_full (Memref.whole cc1_scratch0).view _ inb_S1_S1_0 _ _).trans ?_
  rw [View.readAt_full, View.readAt_full, seed1, if_neg h1]
  exact congrArg (fun z => fun _ : S1.Idx => k1_pay2 (View.read (Elt F) arg2.view f0) (View.read (Elt F) arg3.view f1) (View.read (Elt F) (Memref.whole cc1_scratch0).view f3 z)) (eq_o1 _)

/-- The last point's body. -/
theorem gemmLast (c : Dev nD) (i : grid1.Coords) (arg2 : Memref sig .tc .vmem S256x4096 .f32) (harg2 : arg2.IsWhole) (arg3 : Memref sig .tc .vmem S4096x1024 .f32) (harg3 : arg3.IsWhole)
    (arg4 : Memref sig .tc .vmem S256x1024 .f32) (harg4 : arg4.IsWhole) (arg5 : Memref sig .tc .vmem S1x1 .f32) (harg5 : arg5.IsWhole)
    (x : Vec F S256x4096 .f32) (w : Vec F S4096x1024 .f32) (r : S1.Idx → Elt F .f32) (K : PUnit → sProp 𝕄) (h1 : ¬ first1 i = 1#1) (h2 : k1_cond2 i = 1#1) :
    iprop(owns (c : Thread nD τ) arg2 fullShare x ∗ owns (c : Thread nD τ) arg3 fullShare w ∗ (∃ d, owns (c : Thread nD τ) arg4 fullShare d)
        ∗ (∃ d, owns (c : Thread nD τ) arg5 fullShare d) ∗ owns (c : Thread nD τ) (Memref.whole cc1_scratch0) fullShare r
        ∗ ((owns (c : Thread nD τ) arg2 fullShare x ∗ owns (c : Thread nD τ) arg3 fullShare w ∗ owns (c : Thread nD τ) arg4 fullShare (k1_pay1 x w)
          ∗ owns (c : Thread nD τ) arg5 fullShare (k1_pay3 (k1_pay2 x w (seed1 i (r o1)))) ∗ owns (c : Thread nD τ) (Memref.whole cc1_scratch0) fullShare (fun _ => k1_pay2 x w (seed1 i (r o1)))) -∗ K ⟨⟩))
      ⊢ wp frame (wpE (defs₀ (F := F)) Variants.none c none) Set.univ (cc1__gemm_body i arg2 harg2 arg3 harg3 arg4 harg4 arg5 harg5 (Memref.whole cc1_scratch0) (Memref.isWhole_whole _)) K := by
  simp only [cc1__gemm_body_eq_skeleton]; unfold cc1__gemm_body_skel
  unfold owns
  iintro ⟨⟨%f0, %hf0, H0⟩, ⟨%f1, %hf1, H1⟩, ⟨%d2, %f2, -, H2⟩, ⟨%d5, %f5, -, H5⟩, ⟨%f3, %hf3, H3⟩, Hk⟩
  subst hf0 hf1 hf3
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_full, View.readAt_full, View.readAt_full]
  isplitl [H5]
  · iexists _; isplitr
    swap; · iexact H5
    ipureintro
    rw [View.read_writes_full, seed1, if_neg h1]
    unfold gemmLast.sl.r_1
    rw [View.readAt_full, View.readAt_full]
    exact congrArg (fun z => k1_pay3 (k1_pay2 (View.read (Elt F) arg2.view f0) (View.read (Elt F) arg3.view f1) (View.read (Elt F) (Memref.whole cc1_scratch0).view f3 z))) (eq_o1 _)
  iexists _; isplitr
  swap; · iexact H3
  ipureintro
  refine (View.read_writes_full (Memref.whole cc1_scratch0).view _ inb_S1_S1_0 _ _).trans ?_
  rw [View.readAt_full, View.readAt_full, seed1, if_neg h1]
  exact congrArg (fun z => fun _ : S1.Idx => k1_pay2 (View.read (Elt F) arg2.view f0) (View.read (Elt F) arg3.view f1) (View.read (Elt F) (Memref.whole cc1_scratch0).view f3 z)) (eq_o1 _)

end Cert.Talk

end
-- ==== Proof.Data.lean ====
/-
  The three calls' proof data: what each device's arrays hold between the calls, what each call's invariant says, what the device still owes.
-/
module

public import proofs.«01_k».proof.Proof.Gather
public import proofs.«01_k».proof.Proof.GemmBody

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

/-- A buffer of a device, whole, at contents not chosen. -/
def anyBuf (c : Dev nD) (b : Ref sig .tc) : sProp 𝕄 := iprop(∃ f : Buf (Elt F) ((c : Thread nD τ).loc b), ((c : Thread nD τ).loc b) ↦{fullShare} f)
/-- The generator register at a state not chosen. -/
def anyPrng (c : Dev nD) : sProp 𝕄 := iprop(∃ r, prngReg c r)

/-! ## What is owed to the talking calls -/

/-- What device c pays to the others in the second talking call, in program order. -/
def rem2 (d : Dev nD) (_ : Fin 1) : List Row :=
  [((rot 1 d).val, 0, 0, 6, 1), ((rot 2 d).val, 0, 0, 6, 1), ((rot 3 d).val, 0, 0, 6, 1),
   ((rot 1 d).val, 5 + d.val, 0, 7, 128), ((rot 2 d).val, 5 + d.val, 0, 7, 128), ((rot 3 d).val, 5 + d.val, 0, 7, 128),
   ((rot 1 d).val, 1, 0, 8, 1), ((rot 2 d).val, 1, 0, 8, 1), ((rot 3 d).val, 1, 0, 8, 1)]

/-- What it owes when it has made the first k of them. -/
def owed2 (c : Dev nD) (k : ℕ) : CellTallies nD τ sig ℕ := addL 0 (duesR bar2 (dorm2 0) ((rem2 c 0).drop k))

/-- What is owed to the second talking call from the launch on, and to the first. -/
def due2 (c : Dev nD) : CellTallies nD τ sig ℕ := tallyL (duesR bar2 (dorm2 0) (rem2 c 0))
def due0 (c : Dev nD) : CellTallies nD τ sig ℕ := tallyL (duesR bar0 (dorm0 0) (rem0 c 0))

theorem owed2_zero (c : Dev nD) : owed2 c 0 = due2 c := by unfold owed2 due2; rw [addL_eq, zero_add]; rfl
theorem owed0_zero (c : Dev nD) : owed0 c (due2 c) 0 = due2 c + due0 c := by unfold owed0 due0; rw [addL_eq]; rfl

theorem above2 : Above 9 6 due2 := by
  have h := talk_above (nD := nD) (τ := τ) (sig := sig) (N := 9) (b := 6) (w := 3) (by decide) (above_zero 9 (6 + 3)) (fun d => duesR bar2 (dorm2 0) (rem2 d 0)) (fun c x hx => by
    obtain ⟨y, hy, rfl⟩ := List.mem_map.mp (List.mem_reverse.mp hx)
    exact ⟨rfl, (by decide : ∀ c : Dev nD, ∀ y ∈ rem2 c 0, 6 ≤ y.2.2.2.1 ∧ y.2.2.2.1 < 6 + 3) c y hy⟩)
  simp only [zero_add] at h; exact h

variable (m : (ℓ : Loc nD τ sig) → Buf (Elt F) ℓ)

/-! ## The arrays between the calls -/

/-- At launch; after the gather. -/
def W0 (c : Dev nD) : Valuation τ sig (Elt F) := fun b => m (c, b)
def W1 (c : Dev nD) : Valuation τ sig (Elt F) := Function.update (W0 m c) (Proc.devRef .tc main_v1) (gath m)

/-- A window's block of the product's operands, at a point. -/
def xb (c : Dev nD) (t : Fin cfg1.N) : Vec F S256x4096 .f32 := ((cfg1.win 0).blk t).view.read (Elt F) (W1 m c (Proc.devRef .tc (Pipeline.arrRef spec1 0)))
def wb (c : Dev nD) (t : Fin cfg1.N) : Vec F S4096x1024 .f32 := ((cfg1.win 1).blk t).view.read (Elt F) (W1 m c (Proc.devRef .tc (Pipeline.arrRef spec1 1)))

/-- The running maximum after the first n points. -/
def rmax (c : Dev nD) : ℕ → Elt F .f32
  | 0 => Scalar.ofBits .f32 0x00000000#32
  | n + 1 => if h : n < cfg1.N then k1_pay2 (xb m c ⟨n, h⟩) (wb m c ⟨n, h⟩) (rmax c n) else rmax c n

/-- The scoped buffers that the product's call does not use. -/
def rest1 (c : Dev nD) : sProp 𝕄 := iprop(anyBuf c cc2_stg0_0 ∗ anyBuf c cc2_stg1_0 ∗ anyBuf c cc2_stg1_1 ∗ anyBuf c cc2_stg2_0 ∗ anyBuf c cc2_stg2_1
  ∗ anyBuf c cc2_scratch0 ∗ anyBuf c cc2_scratch1 ∗ anyBuf c cc2_scratch5)

/-- The product's invariant before point n: the running maximum in its place. -/
def inv1 (c : Dev nD) (n : ℕ) : sProp 𝕄 := iprop((∃ r : S1.Idx → Elt F .f32, ⌜n = 0 ∨ r = fun _ => rmax m c n⌝ ∗ owns (c : Thread nD τ) (Memref.whole cc1_scratch0) fullShare r)
  ∗ rest1 c ∗ anyPrng c)

/-- The product's proof data. -/
def dat1 (c : Dev nD) : Pipeline.Dat τ (Elt F) ℕ ℕ UU ℕ cfg1 c where
  A w := W1 m c (Proc.devRef .tc (Pipeline.arrRef spec1 w))
  after w t := match w with
    | ⟨0, _⟩ => xb m c t
    | ⟨1, _⟩ => wb m c t
    | ⟨2, _⟩ => k1_pay1 (xb m c t) (wb m c t)
    | ⟨3, _⟩ => k1_pay3 (rmax m c (t.val + 1))
  Φ t := inv1 m c t.val
  q _ := fullShare
  owed _ := due2 c

/-- After the product. -/
def W2 (c : Dev nD) : Valuation τ sig (Elt F) :=
  Function.update (Function.update (W1 m c) (Proc.devRef .tc main_v2_0) ((dat1 m c).arrAt 2 cfg1.N)) (Proc.devRef .tc main_v2_1) ((dat1 m c).arrAt 3 cfg1.N)

/-- A window's block of the last call's operands, at a point. -/
def mb (c : Dev nD) (t : Fin cfg2.N) : Vec F S1x1 .f32 := ((cfg2.win 0).blk t).view.read (Elt F) (W2 m c (Proc.devRef .tc (Pipeline.arrRef spec2 0)))
def yb (c : Dev nD) (t : Fin cfg2.N) : Vec F S512x2048 .f32 := ((cfg2.win 1).blk t).view.read (Elt F) (W2 m c (Proc.devRef .tc (Pipeline.arrRef spec2 1)))

/-- A device's own maximum, the number that it sends. -/
def amx (c : Dev nD) : Elt F .f32 := k2_pay2 (mb m c t2_0)
/-- The first row of each slot when all the numbers have arrived. -/
def slotR : Vec F S4x1x128 .f32 := fun i => amx m ⟨(i (0 : Fin 3)).val, (i (0 : Fin 3)).isLt⟩
/-- A device's place on the mesh as the body computes it. -/
def myW (c : Dev nD) : BitVec 32 := Scalar.remsi (Scalar.divsi (Dev.word c) 1#32) 4#32
/-- The scale and its inverse, kept in scalar memory. -/
def scl (c : Dev nD) : Elt F .f32 := k2_pay5 (myW c) (amx m c) (slotR m)
def scli (c : Dev nD) : Elt F .f32 := k2_pay6 (myW c) (amx m c) (slotR m)
def sclV (c : Dev nD) : S2.Idx → Elt F .f32 := fun i => if (i (0 : Fin 1)).val = 0 then scl m c else scli m c

/-- The scoped buffers that the last call does not use. -/
def rest2 (c : Dev nD) : sProp 𝕄 := iprop(anyBuf c cc1_stg0_0 ∗ anyBuf c cc1_stg0_1 ∗ anyBuf c cc1_stg1_0 ∗ anyBuf c cc1_stg1_1 ∗ anyBuf c cc1_stg2_0 ∗ anyBuf c cc1_stg2_1
  ∗ anyBuf c cc1_stg3_0 ∗ anyBuf c cc1_scratch0)

/-! ## The talking calls' ghost state -/

/-- The second talking call's invariants, at the names κ. -/
abbrev invs2 (κ : GSem nD τ sig → ℕ) : sProp 𝕄 := Fm2.cellInvs E2 (Rd2 (amx m)) κ

/-- The second talking call's rights, cells opened: positions, that they are open, tokens, credits. -/
def ePos (c : Dev nD) : sProp 𝕄 := iprop(atPos E2 (regAt c 1) 0 ∅ 0 ∗ atPos E2 (dmaAt c 25) 0 ∅ 0 ∗ atPos E2 (dmaAt c 26) 0 ∅ 0 ∗ atPos E2 (dmaAt c 27) 0 ∅ 0
  ∗ atPos E2 (dmaAt c (recvSem (rot 1 c))) 0 ∅ 0 ∗ atPos E2 (dmaAt c (recvSem (rot 2 c))) 0 ∅ 0 ∗ atPos E2 (dmaAt c (recvSem (rot 3 c))) 0 ∅ 0)
def eReached (c : Dev nD) : sProp 𝕄 := iprop(reached E2 (regAt c 1) 0 ∗ reached E2 (dmaAt c 25) 0 ∗ reached E2 (dmaAt c 26) 0 ∗ reached E2 (dmaAt c 27) 0
  ∗ reached E2 (dmaAt c (recvSem (rot 1 c))) 0 ∗ reached E2 (dmaAt c (recvSem (rot 2 c))) 0 ∗ reached E2 (dmaAt c (recvSem (rot 3 c))) 0)
def eToks (c : Dev nD) : sProp 𝕄 := iprop((dutyTok E2 (regAt (rot 1 c) 2) 0 (c, 0) ∗ dutyTok E2 (regAt (rot 2 c) 2) 0 (c, 1) ∗ dutyTok E2 (regAt (rot 3 c) 2) 0 (c, 2))
  ∗ (dutyTok E2 (dmaAt c 25) 0 (c, 3) ∗ dutyTok E2 (dmaAt (rot 1 c) (recvSem c)) 0 (c, 4)) ∗ (dutyTok E2 (dmaAt c 26) 0 (c, 5) ∗ dutyTok E2 (dmaAt (rot 2 c) (recvSem c)) 0 (c, 6))
  ∗ (dutyTok E2 (dmaAt c 27) 0 (c, 7) ∗ dutyTok E2 (dmaAt (rot 3 c) (recvSem c)) 0 (c, 8))
  ∗ (dutyTok E2 (regAt (rot 1 c) 1) 0 (c, 9) ∗ dutyTok E2 (regAt (rot 2 c) 1) 0 (c, 10) ∗ dutyTok E2 (regAt (rot 3 c) 1) 0 (c, 11)))
def eCreds (c : Dev nD) : sProp 𝕄 := iprop(cred (tallyAt (regAt c 2) 6 3) ∗ cred (tallyAt (dmaAt c (recvSem (rot 1 c))) 7 128) ∗ cred (tallyAt (dmaAt c (recvSem (rot 2 c))) 7 128)
  ∗ cred (tallyAt (dmaAt c (recvSem (rot 3 c))) 7 128) ∗ cred (tallyAt (regAt c 1) 8 3))
def eZeros (c : Dev nD) : sProp 𝕄 := iprop(semVal (regAt c 1) 0 ∗ semVal (dmaAt c 25) 0 ∗ semVal (dmaAt c 26) 0 ∗ semVal (dmaAt c 27) 0
  ∗ semVal (dmaAt c (recvSem (rot 1 c))) 0 ∗ semVal (dmaAt c (recvSem (rot 2 c))) 0 ∗ semVal (dmaAt c (recvSem (rot 3 c))) 0)

/-- What enters the first talking call, beside its buffers, and what is kept of it. -/
def enter0 (c : Dev nD) : sProp 𝕄 := iprop(∃ κ, invs0 m κ ∗ levAts (L 9) lv ∗ atPos E0 (regAt c 0) 0 ∅ 0 ∗ (reached E0 (regAt (rot 3 c) 0) 0 ∗ reached E0 (regAt (rot 1 c) 0) 0)
  ∗ gPos c ∗ gReached c ∗ gToks c ∗ gCreds c)
def kept0 (c : Dev nD) : sProp 𝕄 := Fm0.barPos E0 (Rd0 m) c 1 ∅

/-- What enters the second, and what is kept of it. -/
def enter2 (c : Dev nD) : sProp 𝕄 := iprop(∃ κ, invs2 m κ ∗ levAts (L 9) lv ∗ atPos E2 (regAt c 2) 0 ∅ 0
  ∗ (reached E2 (regAt (rot 1 c) 2) 0 ∗ reached E2 (regAt (rot 2 c) 2) 0 ∗ reached E2 (regAt (rot 3 c) 2) 0)
  ∗ ePos c ∗ eReached c ∗ eToks c ∗ eCreds c ∗ semVal (dmaAt c (recvSem c)) 0)
def kept2 (c : Dev nD) : sProp 𝕄 := Fm2.barPos E2 (Rd2 (amx m)) c 1 ∅

instance (c : Dev nD) : Persistent (eReached (F := F) c) := by unfold eReached; infer_instance

/-! ## The talking calls' proof data -/

/-- The buffers that the first call addresses itself, and the buffers that a call leaves alone. -/
def hs0 : Finset (DevRef τ sig) := {Proc.devRef .tc main_arg0, Proc.devRef .tc main_v1}
def sr1 : Finset (DevRef τ sig) := {Proc.devRef .tc main_arg0, Proc.devRef .tc main_v3}
def sr2 : Finset (DevRef τ sig) := {Proc.devRef .tc main_arg0, Proc.devRef .tc main_arg1, Proc.devRef .tc main_v1}

/-- The first call: before it and after it. -/
def dat0 (c : Dev nD) : Pipeline.Dat τ (Elt F) ℕ ℕ UU ℕ cfg0 c where
  A w := w.elim0
  after w := w.elim0
  Φ t := if t.val = 0 then iprop(Pipeline.scopedRest cfg0.spec c ∗ anyPrng c ∗ StableHlo.held (c.tc : Thread nD τ) hs0 (W0 m c) ∗ enter0 m c)
    else iprop(Pipeline.scopedRest cfg0.spec c ∗ anyPrng c ∗ StableHlo.held (c.tc : Thread nD τ) hs0 (W1 m c) ∗ gZeros c ∗ kept0 m c)
  q w := w.elim0
  owed t := if t.val = 0 then due2 c + due0 c else due2 c

/-- The last call: its exchange takes place inside its first point. -/
def dat2 (c : Dev nD) : Pipeline.Dat τ (Elt F) ℕ ℕ UU ℕ cfg2 c where
  A w := W2 m c (Proc.devRef .tc (Pipeline.arrRef spec2 w))
  after w t := match w with
    | ⟨0, _⟩ => mb m c t
    | ⟨1, _⟩ => yb m c t
    | ⟨2, _⟩ => k2_pay1 (scl m c) (scli m c) (yb m c t)
  Φ t := if t.val = 0 then iprop(rest2 c ∗ anyPrng c ∗ anyBuf c cc2_scratch0 ∗ anyBuf c cc2_scratch1 ∗ anyBuf c cc2_scratch5 ∗ enter2 m c)
    else iprop(rest2 c ∗ anyPrng c ∗ anyBuf c cc2_scratch0 ∗ anyBuf c cc2_scratch1 ∗ owns (c : Thread nD τ) (Memref.whole cc2_scratch5) fullShare (sclV m c)
      ∗ eZeros c ∗ semVal (dmaAt c (recvSem c)) 0 ∗ kept2 m c)
  q _ := fullShare
  owed t := if t.val = 0 then due2 c else 0

/-- After the last call. -/
def W3 (c : Dev nD) : Valuation τ sig (Elt F) := Function.update (W2 m c) (Proc.devRef .tc main_v3) ((dat2 m c).arrAt 2 cfg2.N)

/-- The three calls' proof data. -/
def pdats : (p : Fin 3) → (c : Dev nD) → Pipeline.Dat τ (Elt F) ℕ ℕ UU ℕ (Pipeline.pin (pcfgs (F := F)) (fun p => (cfgs p).toPCfg_adm) p) c
  | 0 => dat0 m
  | 1 => dat1 m
  | 2 => dat2 m

end Cert.Talk

end
-- ==== Proof.EpiSteps.lean ====
/-
  The second talking call: the slots as places, and the instructions' rules at this protocol, one for each kind of instruction.
-/
module

public import proofs.«01_k».proof.Proof.Data

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

/-! ## The slots as places -/

theorem cond2_0 : k2_cond1 (grid2.coords t2_0) = 1#1 := by decide

/-- Slot p, as the body addresses it. -/
abbrev slotM (p : Dev nD) : Memref sig .tc .vmem S8x128 .f32 :=
  ((Memref.whole cc2_scratch0).slice (Rect.unit (s := S4x8x128) (k2_off2 p) S1x8x128.size (k2_off2_inb (grid2.coords t2_0) p cond2_0)) (fun _ => rfl)).squeeze S8x128 squeezes_S1x8x128_S8x128

theorem slot_set (p : Dev nD) : (slotM p).view.set = slotS p := by
  refine (View.set_reshape _ _).trans ((View.set_slice_whole cc2_scratch0 _).trans (Finset.ext fun i => ?_))
  rw [Rect.mem_set_unit, slotS, Finset.mem_filter, show k2_off2 p = ![p.val, 0, 0] from k2_off2_eq p]
  refine ⟨fun h => ⟨Finset.mem_univ _, ?_⟩, fun h a => ?_⟩
  · have h0 := h 0
    have h1 : p.val ≤ (i (0 : Fin 3)).val := h0.1
    have h2 : (i (0 : Fin 3)).val < p.val + 1 := h0.2
    omega
  · match a with
    | 0 => exact ⟨le_of_eq h.2.symm, lt_of_eq_of_lt h.2 (Nat.lt_succ_self _)⟩
    | 1 => exact ⟨Nat.zero_le _, (i 1).isLt⟩
    | 2 => exact ⟨Nat.zero_le _, (i 2).isLt⟩

/-- What a slot reads of the slots' final contents: its device's number everywhere. -/
theorem slot_read (a : Dev nD → Elt F .f32) (p : Dev nD) : (slotM p).view.read (Elt F) (slotV a) = fun _ => a p := funext fun y => by
  have h : (slotM p).view.emb y ∈ slotS p := by rw [← slot_set]; exact View.emb_mem_set _ _
  have e := (Finset.mem_filter.mp h).2
  rw [View.read_apply]
  exact congrArg a (Fin.ext e)

/-- The receiving cell as the body computes it: the device's own, and the three it waits at. -/
theorem sem_at (p : Dev nD) (o : Fin 1 → ℕ) (h : o = ![p.val]) (hi : ∀ a, o a + (![1] : Fin 1 → ℕ) a ≤ S4.size a) :
    ((cc2_scratch3.slice (Rect.unit (s := S4) o ![1] hi)).squeeze S_ squeezes_S1_S_).sem = recvSem p := by
  subst h; revert hi; revert p; decide

/-! ## The rules -/

variable (m : (ℓ : Loc nD τ sig) → Buf (Elt F) ℓ) (κ : GSem nD τ sig → ℕ) (c : Dev nD)

theorem inv2_bar (d : Dev nD) : invs2 m κ ⊢ cellInv E2 (Rd2 (amx m)) (κ (regAt d 2)) (regAt d 2) := Fm2.cellInvs_bar E2 (Rd2 (amx m)) κ d
theorem inv2_dorm (d : Dev nD) {sm : SemLoc sig} (h : sm ∈ dorm2 0) : invs2 m κ ⊢ cellInv E2 (Rd2 (amx m)) (κ ((d.tc : Thread nD τ), sm)) ((d.tc : Thread nD τ), sm) :=
  Fm2.cellInvs_dorm E2 (Rd2 (amx m)) κ d (j := 0) (List.mem_toFinset.mpr h)
theorem inv2_reg (d : Dev nD) (n : Fin 3) (hn : n ≠ 0) : invs2 m κ ⊢ cellInv E2 (Rd2 (amx m)) (κ (regAt d n)) (regAt d n) := by
  match n, hn with
  | 1, _ => exact inv2_dorm m κ d (by decide)
  | 2, _ => exact inv2_bar m κ d
  | 0, h => exact absurd rfl h

theorem payload2 (a : Dev nD → Elt F .f32) (g : GSem nD τ sig) (r : ℕ) (x : Dev nD × ℕ) : (Rd2 a).payload g r x = pay2 a g r x := rfl
/-- What a receiving cell is paid: its slot, filled. -/
theorem dmaPay2_recv (a : Dev nD → Elt F .f32) (d p : Dev nD) : (dmaPay2 a d (recvSem p).val : sProp 𝕄) = (sLoc d ↦[slotS p]{fullShare} slotV a) := by
  match p with
  | 0 => rfl
  | 1 => rfl
  | 2 => rfl
  | 3 => rfl
/-- What a sending cell is paid: the share lent. -/
theorem dmaPay2_send (a : Dev nD → Elt F .f32) (d : Dev nD) (k : Fin 3) : (dmaPay2 a d (sendSem k).val : sProp 𝕄) = (bLoc d ↦{lent k.val} fun _ => a d) := by
  match k with
  | 0 => rfl
  | 1 => rfl
  | 2 => rfl
theorem send_mem (k : Fin 3) : SemLoc.dma (sendSem k) ∈ dorm2 0 := by revert k; decide
theorem recv_mem (p : Dev nD) : SemLoc.dma (recvSem p) ∈ dorm2 0 := by revert p; decide
theorem recv_at (p : Dev nD) : (bar2 :: dorm2 0).getD (5 + p.val) bar2 = .dma (recvSem p) := by revert p; decide

/-- Row i of what the device pays. -/
theorem pays2 (a : Dev nD → Elt F .f32) (i : ℕ) {d : Dev nD} {s ι u : ℕ} (h : (rows2 c 0)[i]? = some (d.val, s, 0, ι, u)) :
    (c, i) ∈ (Rd2 a).duties ((d.tc : Thread nD τ), (bar2 :: dorm2 0).getD s bar2) 0 ∧ (Rd2 a).amount ((d.tc : Thread nD τ), (bar2 :: dorm2 0).getD s bar2) 0 (c, i) = u :=
  Sched.row_pays bar2 dorm2 hsem2 hrow2 (fun _ => 1) hok2 (pay2 a) (c := c) (j := 0) h (cellN_val bar2 (dorm2 0) d s) rfl
theorem pays2_recv (a : Dev nD → Elt F .f32) (i : ℕ) {d : Dev nD} (h : (rows2 c 0)[i]? = some (d.val, 5 + c.val, 0, 7, 128)) :
    (c, i) ∈ (Rd2 a).duties (dmaAt d (recvSem c)) 0 ∧ (Rd2 a).amount (dmaAt d (recvSem c)) 0 (c, i) = 128 := by
  have := pays2 c a i h
  rwa [recv_at] at this

theorem owed2_step (k : ℕ) {d : Dev nD} {s r ι u : ℕ} (h : (rem2 c 0)[k]? = some (d.val, s, r, ι, u)) :
    owed2 c k = owed2 c (k + 1) + tallyAt ((d.tc : Thread nD τ), (bar2 :: dorm2 0).getD s bar2) ι u :=
  (addL_duesR_drop 0 bar2 (dorm2 0) h).trans (congrArg (fun p => owed2 c (k + 1) + Pay.tally p) (payN_val bar2 (dorm2 0) d s ι u))
theorem owed2_recv (k : ℕ) {d : Dev nD} (h : (rem2 c 0)[k]? = some (d.val, 5 + c.val, 0, 7, 128)) :
    owed2 c k = owed2 c (k + 1) + tallyAt (dmaAt d (recvSem c)) 7 128 := by
  have := owed2_step c k h
  rwa [recv_at] at this
theorem owed2_end : owed2 c 9 = 0 := rfl

/-- Every payment still to make, after the first k, is at an index above i. -/
def later2 (k i : ℕ) : Prop := ∀ c : Dev nD, ∀ x ∈ (rem2 c 0).drop k, i < x.2.2.2.1 ∧ x.2.2.2.1 < 9
instance (k i : ℕ) : Decidable (later2 k i) := by unfold later2; infer_instance

theorem mayWait2 (sm : SemLoc sig) (k i : ℕ) (hi : i < 9) (h : later2 k i) :
    (levAts (L 9) lv : sProp 𝕄) ⊢ MayWait (c : Thread nD τ) sm i (owed2 c k) :=
  mayWait_addL hi (by decide) (above_zero 9 9) c sm _ fun x hx => by
    obtain ⟨y, hy, rfl⟩ := List.mem_map.mp (List.mem_reverse.mp hx)
    exact ⟨rfl, h c y hy⟩

/-- A signal to another device's barrier, or to its acknowledgement cell. -/
theorem sig2 {α : Type} {Q : α → sProp (MT nD τ sig ℕ (Elt F) ℕ UU ℕ)} (kn : ℕ) (d : Dev nD) (n : Fin 3) (hn : n ≠ 0) (ι i : ℕ) {k : PUnit → Prog (TpuEff nD τ sig (Elt F) Λ₀ .tc) α}
    (hd : (c, i) ∈ (Rd2 (amx m)).duties (regAt d n) 0 ∧ (Rd2 (amx m)).amount (regAt d n) 0 (c, i) = 1) (hO : owed2 c kn = owed2 c (kn + 1) + tallyAt (regAt d n) ι 1) :
    iprop(invs2 m κ ∗ ow c (owed2 c kn) ∗ dutyTok E2 (regAt d n) 0 (c, i) ∗ reached E2 (regAt d n) 0 ∗ pay2 (amx m) (regAt d n) 0 (c, i))
      ⊢ iprop((ow c (owed2 c (kn + 1)) -∗ wp frame (wpE (defs₀ (F := F)) 𝒱₀ c none) Set.univ (k ⟨⟩) Q)
          -∗ wp frame (wpE (defs₀ (F := F)) 𝒱₀ c none) Set.univ (.op (.semSignal (d.tc : Thread nD τ) n (1#32 : BitVec 32).toInt) k) Q) := by
  unfold ow
  iintro ⟨#HI, ⟨%W, HO⟩, Ht, Hr, Hp⟩ Hk
  ihave HId := (inv2_reg m κ d n hn) $$ HI
  iapply (Rounds.wp_signal 𝒱₀ E2 (Rd2 (amx m)) (c : Thread nD τ) none (dst := (d.tc : Thread nD τ)) (sem := n) (r := 0) (d := (c, i)) (κ := κ (regAt d n))
      hd.1 hd.2 ι (owed2 c (kn + 1)) hO) $$ [HId HO Ht Hr Hp]
  · isplitl [HId]; · iexact HId
    isplitl [HO]; · iexact HO
    isplitl [Ht]; · iexact Ht
    isplitl [Hp]; · rw [payload2]; iexact Hp
    iexact Hr
  iintro HO
  iapply Hk
  iexists W; iexact HO

/-- The wait for the three barrier signals. -/
theorem barWait2 {α : Type} {Q : α → sProp (MT nD τ sig ℕ (Elt F) ℕ UU ℕ)} (k : ℕ) (hk : later2 k 6)
    {kk : PUnit → Prog (TpuEff nD τ sig (Elt F) Λ₀ .tc) α} :
    iprop(invs2 m κ ∗ levAts (L 9) lv ∗ ow c (owed2 c k) ∗ cred (tallyAt (regAt c 2) 6 3) ∗ atPos E2 (regAt c 2) 0 ∅ 0)
      ⊢ iprop(((ow c (owed2 c k) ∗ atPos E2 (regAt c 2) 1 ∅ 0 ∗ pay2 (amx m) (regAt c 2) 0 (rot 3 c, 0) ∗ pay2 (amx m) (regAt c 2) 0 (rot 2 c, 1) ∗ pay2 (amx m) (regAt c 2) 0 (rot 1 c, 2))
            -∗ wp frame (wpE (defs₀ (F := F)) 𝒱₀ c none) Set.univ (kk ⟨⟩) Q)
          -∗ wp frame (wpE (defs₀ (F := F)) 𝒱₀ c none) Set.univ (.op (.semWait (2 : Fin 3) (3#32 : BitVec 32).toInt.toNat) kk) Q) := by
  have hw := bar2_wait (amx m) c
  unfold ow
  iintro ⟨#HI, #Hlev, ⟨%W, HO⟩, Hc, Ha⟩ Hk
  ihave HId := (inv2_bar m κ c) $$ HI
  iapply (Rounds.wp_wait_rest_token 𝒱₀ E2 (Rd2 (amx m)) (c : Thread nD τ) none (κ := κ (regAt c 2))
      (wpE_semWait_eq 𝒱₀ (c : Thread nD τ) none Set.univ) (Set.mem_univ _) 6 (O := owed2 c k) (W := W) (R := 0) (m := 0) (T := ∅)
      (by rw [hw.1]; decide)) $$ [HId Hc HO Ha]
  · isplitl [HId]; · iexact HId
    isplitl [Hc]; · iexact Hc
    isplitl [HO]; · iexact HO
    isplitr; · iapply (mayWait2 c (.reg 2) k 6 (by decide) hk); iexact Hlev
    iexact Ha
  iintro ⟨HO, Ha, -, Hp⟩
  ihave Hp' := (Entails.of_eq ((hw.2 _).trans (show bigSepL [(rot 3 c, 0), (rot 2 c, 1), (rot 1 c, 2)] (fun y => (Rd2 (amx m)).payload (regAt c 2) 0 y) = iprop(pay2 (amx m) (regAt c 2) 0 (rot 3 c, 0) ∗ pay2 (amx m) (regAt c 2) 0 (rot 2 c, 1) ∗ pay2 (amx m) (regAt c 2) 0 (rot 1 c, 2)) from rfl))) $$ Hp
  iapply Hk
  isplitl [HO]; · iexists _; iexact HO
  isplitl [Ha]; · iexact Ha
  iexact Hp'

/-- The wait for the three acknowledgements, which closes their cell. -/
theorem ackWait2 {α : Type} {Q : α → sProp (MT nD τ sig ℕ (Elt F) ℕ UU ℕ)} (k : ℕ) (hk : later2 k 8)
    {kk : PUnit → Prog (TpuEff nD τ sig (Elt F) Λ₀ .tc) α} :
    iprop(invs2 m κ ∗ levAts (L 9) lv ∗ ow c (owed2 c k) ∗ cred (tallyAt (regAt c 1) 8 3) ∗ atPos E2 (regAt c 1) 0 ∅ 0)
      ⊢ iprop(((ow c (owed2 c k) ∗ semVal (regAt c 1) 0) -∗ wp frame (wpE (defs₀ (F := F)) 𝒱₀ c none) Set.univ (kk ⟨⟩) Q)
          -∗ wp frame (wpE (defs₀ (F := F)) 𝒱₀ c none) Set.univ (.op (.semWait (1 : Fin 3) (3#32 : BitVec 32).toInt.toNat) kk) Q) := by
  have hw := ack_wait (amx m) c
  unfold ow
  iintro ⟨#HI, #Hlev, ⟨%W, HO⟩, Hc, Ha⟩ Hk
  ihave HId := (inv2_dorm m κ c (sm := .reg 1) (by decide)) $$ HI
  ihave HIe := (inv2_dorm m κ c (sm := .reg 1) (by decide)) $$ HI
  iapply (Rounds.wp_wait_rest_token 𝒱₀ E2 (Rd2 (amx m)) (c : Thread nD τ) none (κ := κ (regAt c 1))
      (wpE_semWait_eq 𝒱₀ (c : Thread nD τ) none Set.univ) (Set.mem_univ _) 8 (O := owed2 c k) (W := W) (R := 0) (m := 0) (T := ∅)
      (by rw [hw.1]; decide)) $$ [HId Hc HO Ha]
  · isplitl [HId]; · iexact HId
    isplitl [Hc]; · iexact Hc
    isplitl [HO]; · iexact HO
    isplitr; · iapply (mayWait2 c (.reg 1) k 8 (by decide) hk); iexact Hlev
    iexact Ha
  iintro ⟨HO, Ha, -, -⟩
  imod (Rounds.cell_close E2 (Rd2 (amx m)) (κ := κ (regAt c 1)) (Set.mem_univ _) id (R := 1) fun r hr => Sched.later bar2 dorm2 rows2 (fun _ => 1) hok2 (pay2 (amx m)) _ r hr) $$ [HIe Ha] with Hz
  · isplitl [HIe]; · iexact HIe
    iexact Ha
  iapply Hk
  isplitl [HO]; · iexists _; iexact HO
  iexact Hz

/-- The wait for one transfer, at a cell that one device pays once; it closes the cell. -/
theorem wait2s {α : Type} {Q : α → sProp (MT nD τ sig ℕ (Elt F) ℕ UU ℕ)} (k : ℕ) (n : Fin 32) (hn : SemLoc.dma n ∈ dorm2 0) {x : Dev nD × ℕ}
    (hw : (Rd2 (amx m)).expect (dmaAt c n) 0 = 128 ∧ ∀ f : Dev nD × ℕ → sProp 𝕄, bigSep ((Rd2 (amx m)).duties (dmaAt c n) 0 \ ∅) f = f x) (hk : later2 k 7)
    {sp sp' : Space} {s s' : Shape} {e e' : EltTy} {src : Memref sig .tc sp' s' e'} {dst : Memref sig .tc sp s e} {h₁ : src.view.WordExact} {h₂ : dst.view.WordExact}
    (hN : dst.view.dmaCredit = 128) {kk : PUnit → Prog (TpuEff nD τ sig (Elt F) Λ₀ .tc) α} :
    iprop(invs2 m κ ∗ levAts (L 9) lv ∗ ow c (owed2 c k) ∗ cred (tallyAt (dmaAt c n) 7 128) ∗ atPos E2 (dmaAt c n) 0 ∅ 0)
      ⊢ iprop(((ow c (owed2 c k) ∗ semVal (dmaAt c n) 0 ∗ dmaPay2 (amx m) c n.val) -∗ wp frame (wpE (defs₀ (F := F)) 𝒱₀ c none) Set.univ (kk ⟨⟩) Q)
          -∗ wp frame (wpE (defs₀ (F := F)) 𝒱₀ c none) Set.univ (.op (.waitDma2 n src dst h₁ h₂) kk) Q) := by
  rw [← hN]
  unfold ow
  iintro ⟨#HI, #Hlev, ⟨%W, HO⟩, Hc, Ha⟩ Hk
  ihave HId := (inv2_dorm m κ c hn) $$ HI
  ihave HIe := (inv2_dorm m κ c hn) $$ HI
  iapply (Rounds.wp_wait_rest_token 𝒱₀ E2 (Rd2 (amx m)) (c : Thread nD τ) none (κ := κ (dmaAt c n))
      (wpE_waitDma2_eq (src := src) (dst := dst) 𝒱₀ (c : Thread nD τ) none Set.univ) (Set.mem_univ _) 7 (O := owed2 c k) (W := W) (R := 0) (m := 0) (T := ∅)
      ((Nat.zero_add _).trans (hN.trans hw.1.symm))) $$ [HId Hc HO Ha]
  · isplitl [HId]; · iexact HId
    isplitl [Hc]; · iexact Hc
    isplitl [HO]; · iexact HO
    isplitr; · iapply (mayWait2 c (.dma n) k 7 (by decide) hk); iexact Hlev
    iexact Ha
  iintro ⟨HO, Ha, -, Hp⟩
  ihave Hp' := (Entails.of_eq ((hw.2 _).trans (show (Rd2 (amx m)).payload (dmaAt c n) 0 x = dmaPay2 (amx m) c n.val from rfl))) $$ Hp
  imod (Rounds.cell_close E2 (Rd2 (amx m)) (κ := κ (dmaAt c n)) (Set.mem_univ _) id (R := 1) fun r hr => Sched.later bar2 dorm2 rows2 (fun _ => 1) hok2 (pay2 (amx m)) _ r hr) $$ [HIe Ha] with Hz
  · isplitl [HIe]; · iexact HIe
    iexact Ha
  iapply Hk
  isplitl [HO]; · iexists _; iexact HO
  isplitl [Hz]; · iexact Hz
  iexact Hp'

theorem wholeB (d : Dev nD) (q : PosShare TreeShare) (f : S8x128.Idx → Elt F .f32) :
    (((Memref.whole cc2_scratch1).view.loc (d : Thread nD τ) ↦[(Memref.whole cc2_scratch1).view.set]{q} f) : sProp 𝕄) = (bLoc d ↦{q} f) := by
  rw [show (Memref.whole cc2_scratch1).view.set = Finset.univ from View.set_whole _]

/-- Transfer number k: the device's number into its slot on another device. -/
theorem send2 {α : Type} {Q : α → sProp (MT nD τ sig ℕ (Elt F) ℕ UU ℕ)} (kn : ℕ) (d : Dev nD) {d' : Dev nD} (hdd : d = d') (k : Fin 3) (iS iR : ℕ) {nS nR : Fin 32} (hnS : nS = sendSem k) (hnR : nR = recvSem c) {src dst : Memref sig .tc .vmem S8x128 .f32} (hsrc : src = Memref.whole cc2_scratch1) (hdst : dst = slotM c)
    (hdS : (c, iS) ∈ (Rd2 (amx m)).duties (dmaAt c (sendSem k)) 0 ∧ (Rd2 (amx m)).amount (dmaAt c (sendSem k)) 0 (c, iS) = 128)
    (hdR : (c, iR) ∈ (Rd2 (amx m)).duties (dmaAt d (recvSem c)) 0 ∧ (Rd2 (amx m)).amount (dmaAt d (recvSem c)) 0 (c, iR) = 128)
    (hO : owed2 c kn = owed2 c (kn + 1) + tallyAt (dmaAt d (recvSem c)) 7 128)
    {h₁ : src.view.WordExact} {h₂ : dst.view.WordExact}
    {h₃ : DmaTarget.Typed (nD := nD) .vmem (.dma nR) (.remote (d'.tc : Thread nD τ) dst (.dma nS) rfl)}
    (fd : S4x8x128.Idx → Elt F .f32)
    {kk : PUnit → Prog (TpuEff nD τ sig (Elt F) Λ₀ .tc) α} :
    iprop(invs2 m κ ∗ ow c (owed2 c kn) ∗ (bLoc c ↦{lent k.val} fun _ => amx m c) ∗ (sLoc d ↦[slotS c]{fullShare} fd)
        ∗ (dutyTok E2 (dmaAt c (sendSem k)) 0 (c, iS) ∗ reached E2 (dmaAt c (sendSem k)) 0) ∗ dutyTok E2 (dmaAt d (recvSem c)) 0 (c, iR) ∗ reached E2 (dmaAt d (recvSem c)) 0)
      ⊢ iprop(((cred (tallyAt (dmaAt c (sendSem k)) 7 128) ∗ ow c (owed2 c (kn + 1))) -∗ wp frame (wpE (defs₀ (F := F)) 𝒱₀ c none) Set.univ (kk ⟨⟩) Q)
          -∗ wp frame (wpE (defs₀ (F := F)) 𝒱₀ c none) Set.univ (.op (.enqueueDma src (.remote (d'.tc : Thread nD τ) dst (.dma nS) rfl) (.dma nR) h₁ h₂ h₃) kk) Q) := by
  subst hdd
  subst hnR
  subst hnS
  subst hdst
  subst hsrc
  unfold ow
  rw [← slot_set c, ← wholeB]
  iintro ⟨#HI, ⟨%W, HO⟩, Hs, Hd, ⟨HtS, HrS⟩, HtR, HrR⟩ Hk
  ihave HIS := (inv2_dorm m κ c (send_mem k)) $$ HI
  ihave HIR := (inv2_dorm m κ d (recv_mem c)) $$ HI
  iapply (Rounds.wp_send_pointsTo 𝒱₀ E2 (Rd2 (amx m)) (c : Thread nD τ) none (c' := (d.tc : Thread nD τ)) (src := Memref.whole cc2_scratch1) (dst := slotM c)
      (sS := .dma (sendSem k)) (sem := .dma (recvSem c)) (q := lent k.val) (fs := fun _ => amx m c) (κ₁ := κ (dmaAt c (sendSem k))) (κ₂ := κ (dmaAt d (recvSem c)))
      (r₁ := 0) (r₂ := 0) (d₁ := (c, iS)) (d₂ := (c, iR)) (fd := fd) hdS.1 hdR.1
      7 7 128 rfl hdS.2 hdR.2 (owed2 c (kn + 1)) hO (W := W)
      (Entails.of_eq ((wholeB c _ _).trans (dmaPay2_send (amx m) c k).symm))
      (Entails.of_eq ((pointsTo_congr (landed (Memref.whole cc2_scratch1).view (slotM c).view (fun _ => amx m c) fd (slotV (amx m)) (slot_read (amx m) c))).trans
        (Eq.trans (by rw [slot_set]) (dmaPay2_recv (amx m) d c).symm)))) $$ [HIS HIR Hs Hd HO HtS HrS HtR HrR]
  · isplitl [HIS]; · iexact HIS
    isplitl [HIR]; · iexact HIR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitl [Hc]; · iexact Hc
  iexists W; iexact HO

end Cert.Talk

end
-- ==== Proof.EpiSlots.lean ====
/-
  The slots of the second talking call put together and read: a device's own row of the slots is never sent and never counts, for the body masks it.
-/
module

public import proofs.«01_k».proof.Proof.EpiSteps

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (c : Dev nD)

/-- The slots, as the four of them. -/
theorem slots_split (p : Dev nD) (f : S4x8x128.Idx → Elt F .f32) :
    ((sLoc p ↦{fullShare} f) : sProp 𝕄) ⊣⊢ bigSepL [p, rot 1 p, rot 2 p, rot 3 p] (fun d => sLoc p ↦[slotS d]{fullShare} f) := by
  rw [show ((sLoc p ↦{fullShare} f) : sProp 𝕄) = (sLoc p ↦[(Finset.univ : Finset (Dev nD)).biUnion slotS]{fullShare} f) from
      congrArg (fun S => (sLoc p ↦[S]{fullShare} f : sProp 𝕄)) (by
        ext i
        simp only [Finset.mem_univ, Finset.mem_biUnion, slotS, Finset.mem_filter, true_and, true_iff]
        exact ⟨⟨(i (0 : Fin 3)).val, (i (0 : Fin 3)).isLt⟩, rfl⟩),
    pointsTo_biUnion _ _ (fun a _ b _ h => Finset.disjoint_left.mpr fun i ha hb => h (Fin.ext
      ((Finset.mem_filter.mp ha).2.symm.trans (Finset.mem_filter.mp hb).2))),
    bigSep_eq_bigSepL_of_eq _ (devs4 p) (devs4_nodup p)]

theorem rot_ne (c : Dev nD) : rot 1 c ≠ c ∧ rot 2 c ≠ c ∧ rot 3 c ≠ c := by revert c; decide

/-- The slots when the others' numbers have arrived, the device's own slot left as it was. -/
def slotMix (a : Dev nD → Elt F .f32) (f : S4x8x128.Idx → Elt F .f32) : S4x8x128.Idx → Elt F .f32 :=
  fun i => if (i (0 : Fin 3)).val = c.val then f i else slotV a i

theorem slots_join (a : Dev nD → Elt F .f32) (f : S4x8x128.Idx → Elt F .f32) :
    iprop((sLoc c ↦[slotS c]{fullShare} f) ∗ (sLoc c ↦[slotS (rot 1 c)]{fullShare} slotV a) ∗ (sLoc c ↦[slotS (rot 2 c)]{fullShare} slotV a) ∗ (sLoc c ↦[slotS (rot 3 c)]{fullShare} slotV a))
      ⊢ (sLoc c ↦{fullShare} slotMix c a f : sProp 𝕄) := by
  have hs : ∀ k : Dev nD, k ≠ c → ((sLoc c ↦[slotS k]{fullShare} slotV a) : sProp 𝕄) = (sLoc c ↦[slotS k]{fullShare} slotMix c a f) := fun k hk =>
    pointsTo_congr fun i hi => (if_neg fun e => hk (Fin.ext ((Finset.mem_filter.mp hi).2.symm.trans e))).symm
  rw [show ((sLoc c ↦[slotS c]{fullShare} f) : sProp 𝕄) = (sLoc c ↦[slotS c]{fullShare} slotMix c a f) from
    pointsTo_congr fun i hi => (if_pos (Finset.mem_filter.mp hi).2).symm,
    hs (rot 1 c) (rot_ne c).1, hs (rot 2 c) (rot_ne c).2.1, hs (rot 3 c) (rot_ne c).2.2]
  exact (slots_split c (slotMix c a f)).2

theorem myW_eq (c : Dev nD) : myW c = BitVec.ofNat 32 c.val := by revert c; decide

/-- The device's own row is masked: the maximum does not depend on it. -/
theorem pay4_congr (u : Elt F .f32) {v v' : Vec F S4x1x128 .f32} (h : ∀ i : S4x1x128.Idx, (i (0 : Fin 3)).val ≠ c.val → v i = v' i) :
    k2_pay4 (myW c) u v = k2_pay4 (myW c) u v' := by
  have key : (select (cmpi .eq (iota .tc S4x128 32 [0] iota_S4x128_d0_w32) (broadcast S4x128 (myW c))) (broadcast S4x128 (Scalar.ofBits .f32 0xFF800000#32)) (shapeCast S4x128 v shapeCasts_S4x1x128_S4x128) : FVec F S4x128 .f32)
      = select (cmpi .eq (iota .tc S4x128 32 [0] iota_S4x128_d0_w32) (broadcast S4x128 (myW c))) (broadcast S4x128 (Scalar.ofBits .f32 0xFF800000#32)) (shapeCast S4x128 v' shapeCasts_S4x1x128_S4x128) := by
    funext j
    have hj : (j (0 : Fin 2)).val < 4 := (j (0 : Fin 2)).isLt
    have hj1 : (j (1 : Fin 2)).val < 128 := (j (1 : Fin 2)).isLt
    show Scalar.select (IntOp.cmpi .eq (iota .tc S4x128 32 [0] iota_S4x128_d0_w32 j) (myW c)) _ (shapeCast S4x128 v shapeCasts_S4x1x128_S4x128 j)
      = Scalar.select (IntOp.cmpi .eq (iota .tc S4x128 32 [0] iota_S4x128_d0_w32 j) (myW c)) _ (shapeCast S4x128 v' shapeCasts_S4x1x128_S4x128 j)
    let k : S4x1x128.Idx := fun a => match a with
      | 0 => ⟨(j (0 : Fin 2)).val, hj⟩
      | 1 => ⟨0, Nat.one_pos⟩
      | 2 => ⟨(j (1 : Fin 2)).val, hj1⟩
    have hk : (S4x1x128.rowMajor k).val = (S4x128.rowMajor j).val := by
      rw [Shape.rowMajor_val_three, Shape.rowMajor_val_two]
      show ((j (0 : Fin 2)).val * 1 + 0) * 128 + (j (1 : Fin 2)).val = (j (0 : Fin 2)).val * 128 + (j (1 : Fin 2)).val
      omega
    rw [shapeCast_apply v _ j k hk, shapeCast_apply v' _ j k hk]
    by_cases e : (j (0 : Fin 2)).val = c.val
    · have hc : IntOp.cmpi .eq (iota .tc S4x128 32 [0] iota_S4x128_d0_w32 j) (myW c) = 1#1 := by
        rw [iota_single_apply, myW_eq, show (j 0).val = c.val from e]
        simp [IntOp.cmpi]
      rw [hc]; rfl
    · rw [h k e]
  unfold k2_pay4
  dsimp only
  rw [key]

end Cert.Talk

end
-- ==== Proof.Epi.lean ====
/-
  The last call's body: at its first point the exchange of the devices' maxima, then the tile; at the other points the tile alone.
-/
module

public import proofs.«01_k».proof.Proof.EpiSlots
public import Idealize.ShloMosaic.Lib.Tactic

@[expose] public section

noncomputable section

namespace Cert.Talk

open Cert.KernelIdeal Cert.KernelIdeal.Gen
open Idealize.ShloMosaic.Tactic
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

/-! ## The semaphores by number, the devices, the places -/

theorem e6_0 : ((cc2_scratch2.slice (Rect.unit (s := S3) ![0] ![1] inb_S3_S1_0)).squeeze S_ squeezes_S1_S_).sem = (25 : Fin 32) := rfl
theorem e6_1 : ((cc2_scratch2.slice (Rect.unit (s := S3) ![1] ![1] inb_S3_S1_1)).squeeze S_ squeezes_S1_S_).sem = (26 : Fin 32) := rfl
theorem e6_2 : ((cc2_scratch2.slice (Rect.unit (s := S3) ![2] ![1] inb_S3_S1_2)).squeeze S_ squeezes_S1_S_).sem = (27 : Fin 32) := rfl
theorem e8 : cc2_scratch4.sem = (1 : Fin 3) := rfl
theorem ebar : (SemArray.scalar (sig.barrier 1 rfl) : Sems sig S_).sem = (2 : Fin 3) := rfl
theorem e7 (d : Dev nD) (h : ∀ a, k2_off1 d a + (![1] : Fin 1 → ℕ) a ≤ S4.size a) : ((cc2_scratch3.slice (Rect.unit (s := S4) (k2_off1 d) ![1] h)).squeeze S_ squeezes_S1_S_).sem = recvSem d :=
  sem_at d _ (k2_off1_eq d) _
theorem e7_1 (d : Dev nD) (h : ∀ a, k2_off3 d 1#32 a + (![1] : Fin 1 → ℕ) a ≤ S4.size a) : ((cc2_scratch3.slice (Rect.unit (s := S4) (k2_off3 d 1#32) ![1] h)).squeeze S_ squeezes_S1_S_).sem = recvSem (rot 1 d) :=
  sem_at (rot 1 d) _ (k2_off3_eq d 0) _
theorem e7_2 (d : Dev nD) (h : ∀ a, k2_off3 d 2#32 a + (![1] : Fin 1 → ℕ) a ≤ S4.size a) : ((cc2_scratch3.slice (Rect.unit (s := S4) (k2_off3 d 2#32) ![1] h)).squeeze S_ squeezes_S1_S_).sem = recvSem (rot 2 d) :=
  sem_at (rot 2 d) _ (k2_off3_eq d 1) _
theorem e7_3 (d : Dev nD) (h : ∀ a, k2_off3 d 3#32 a + (![1] : Fin 1 → ℕ) a ≤ S4.size a) : ((cc2_scratch3.slice (Rect.unit (s := S4) (k2_off3 d 3#32) ![1] h)).squeeze S_ squeezes_S1_S_).sem = recvSem (rot 3 d) :=
  sem_at (rot 3 d) _ (k2_off3_eq d 2) _
theorem dev2_1 (c : Dev nD) (h : k2_dev1 c < nD) : (⟨k2_dev1 c, h⟩ : Dev nD) = rot 1 c := Fin.ext (k2_dev1_eq c)
theorem dev2_2 (c : Dev nD) (h : k2_dev2 c < nD) : (⟨k2_dev2 c, h⟩ : Dev nD) = rot 2 c := Fin.ext (k2_dev2_eq c)
theorem dev2_3 (c : Dev nD) (h : k2_dev3 c < nD) : (⟨k2_dev3 c, h⟩ : Dev nD) = rot 3 c := Fin.ext (k2_dev3_eq c)
theorem dev2_4 (c : Dev nD) (h : k2_dev4 c < nD) : (⟨k2_dev4 c, h⟩ : Dev nD) = rot 1 c := Fin.ext (k2_dev4_eq c)
theorem dev2_5 (c : Dev nD) (h : k2_dev5 c < nD) : (⟨k2_dev5 c, h⟩ : Dev nD) = rot 2 c := Fin.ext (k2_dev5_eq c)
theorem dev2_6 (c : Dev nD) (h : k2_dev6 c < nD) : (⟨k2_dev6 c, h⟩ : Dev nD) = rot 3 c := Fin.ext (k2_dev6_eq c)
theorem dev2_7 (c : Dev nD) (h : k2_dev7 c < nD) : (⟨k2_dev7 c, h⟩ : Dev nD) = rot 1 c := Fin.ext (k2_dev7_eq c)
theorem dev2_8 (c : Dev nD) (h : k2_dev8 c < nD) : (⟨k2_dev8 c, h⟩ : Dev nD) = rot 2 c := Fin.ext (k2_dev8_eq c)
theorem dev2_9 (c : Dev nD) (h : k2_dev9 c < nD) : (⟨k2_dev9 c, h⟩ : Dev nD) = rot 3 c := Fin.ext (k2_dev9_eq c)

theorem pslot (d : Dev nD) (h : ∀ a, k2_off2 d a + (![1, 8, 128] : Fin 3 → ℕ) a ≤ S4x8x128.size a) :
    ((Memref.whole cc2_scratch0).slice (Rect.unit (s := S4x8x128) (k2_off2 d) ![1, 8, 128] h) (fun _ => rfl)).squeeze S8x128 squeezes_S1x8x128_S8x128 = slotM d := rfl

variable (m : (ℓ : Loc nD τ sig) → Buf (Elt F) ℓ) (κ : GSem nD τ sig → ℕ) (c : Dev nD)

/-- The block that the device sends, stored whole: its number everywhere. -/
theorem sent_eq (f : S8x128.Idx → Elt F .f32) (v : Vec F S1x1 .f32) :
    ((Memref.whole cc2_scratch1).access (Rect.unit (s := S8x128) ![0, 0] ![8, 128] inb_S8x128_S8x128_0_0)).write (Elt F) f (k2_pay3 v) Finset.univ = fun _ => k2_pay2 v :=
  (View.read_writes_full (Memref.whole cc2_scratch1).view f inb_S8x128_S8x128_0_0 (k2_pay3 v) []).trans (funext fun _ => rfl)

/-- The first row of the slots, the device's own place apart. -/
theorem row_at (a : Dev nD → Elt F .f32) (f : S4x8x128.Idx → Elt F .f32) (i : S4x1x128.Idx) (hi : (i (0 : Fin 3)).val ≠ c.val) :
    View.readAt (Elt F) (Memref.whole cc2_scratch0).view (Rect.unit (s := S4x8x128) ![0, 0, 0] ![4, 1, 128] inb_S4x8x128_S4x1x128_0_0_0).toLoadRect (slotMix c a f) i
      = a ⟨(i (0 : Fin 3)).val, (i (0 : Fin 3)).isLt⟩ := by
  let j : S4x8x128.Idx := (Rect.unit (s := S4x8x128) ![0, 0, 0] ![4, 1, 128] inb_S4x8x128_S4x1x128_0_0_0).toLoadRect.idx i
  have hj : (j (0 : Fin 3)).val = (i (0 : Fin 3)).val := by
    show 0 + 1 * (i (0 : Fin 3)).val = (i (0 : Fin 3)).val
    omega
  show (if (j (0 : Fin 3)).val = c.val then f j else slotV a j) = _
  rw [if_neg (by rw [hj]; exact hi)]
  exact congrArg a (Fin.ext hj)

/-- The two numbers kept in scalar memory. -/
theorem kept_eq (f : S2.Idx → Elt F .f32) (s t : Elt F .f32) :
    View.read (Elt F) (Memref.whole cc2_scratch5).view ((Memref.whole cc2_scratch5).view.writes (Elt F) f [⟨Rect.unit (s := S2) ![1] ![1] inb_S2_S1_1, fun _ => t⟩, ⟨Rect.unit (s := S2) ![0] ![1] inb_S2_S1_0, fun _ => s⟩])
      = fun i : S2.Idx => if (i (0 : Fin 1)).val = 0 then s else t := by
  funext i
  have hi : (i (0 : Fin 1)).val < 2 := (i (0 : Fin 1)).isLt
  by_cases h : (i (0 : Fin 1)).val = 0
  · rw [if_pos h]
    refine (View.read_writes_cons_unit_of_not_mem (Memref.whole cc2_scratch5).view f inb_S2_S1_1 _ _ i rfl (0 : Fin 1) (Or.inl ?_)).trans ?_
    · show (i (0 : Fin 1)).val < 1; omega
    exact View.read_writes_cons_unit_of_mem (Memref.whole cc2_scratch5).view f inb_S2_S1_0 (fun _ => s) [] i o1 rfl (fun a => by
      match a with | 0 => exact h)
  · rw [if_neg h]
    exact View.read_writes_cons_unit_of_mem (Memref.whole cc2_scratch5).view f inb_S2_S1_1 (fun _ => t) _ i o1 rfl (fun a => by
      match a with | 0 => show (i (0 : Fin 1)).val = 1 + 0; omega)

set_option maxHeartbeats 8000000 in
/-- The first point. -/
theorem epiFirst (i : grid2.Coords) (arg1 : Memref sig .tc .vmem S1x1 .f32) (harg1 : arg1.IsWhole) (arg2 : Memref sig .tc .vmem S512x2048 .f32) (harg2 : arg2.IsWhole) (arg3 : Memref sig .tc .vmem S512x2048 .f32) (harg3 : arg3.IsWhole)
    (y : Vec F S512x2048 .f32) (Kt : PUnit → sProp (MT nD τ sig ℕ (Elt F) ℕ UU ℕ)) (h1 : k2_cond1 i = 1#1) :
    iprop(invs2 m κ ∗ levAts (L 9) lv ∗ ow c (owed2 c 0) ∗ atPos E2 (regAt c 2) 0 ∅ 0
        ∗ (reached E2 (regAt (rot 1 c) 2) 0 ∗ reached E2 (regAt (rot 2 c) 2) 0 ∗ reached E2 (regAt (rot 3 c) 2) 0)
        ∗ ePos c ∗ eReached c ∗ eToks c ∗ eCreds c
        ∗ owns (c : Thread nD τ) arg1 fullShare (mb m c t2_0) ∗ owns (c : Thread nD τ) arg2 fullShare y ∗ (∃ d, owns (c : Thread nD τ) arg3 fullShare d)
        ∗ (∃ f : S4x8x128.Idx → Elt F .f32, sLoc c ↦{fullShare} f) ∗ (∃ f : S8x128.Idx → Elt F .f32, bLoc c ↦{fullShare} f) ∗ (∃ d, owns (c : Thread nD τ) (Memref.whole cc2_scratch5) fullShare d)
        ∗ ((ow c 0 ∗ atPos E2 (regAt c 2) 1 ∅ 0 ∗ eZeros c ∗ owns (c : Thread nD τ) arg1 fullShare (mb m c t2_0) ∗ owns (c : Thread nD τ) arg2 fullShare y
            ∗ owns (c : Thread nD τ) arg3 fullShare (k2_pay1 (scl m c) (scli m c) y)
            ∗ (∃ f : S4x8x128.Idx → Elt F .f32, sLoc c ↦{fullShare} f) ∗ (∃ f : S8x128.Idx → Elt F .f32, bLoc c ↦{fullShare} f) ∗ owns (c : Thread nD τ) (Memref.whole cc2_scratch5) fullShare (sclV m c)) -∗ Kt ⟨⟩))
      ⊢ wp frame (wpE (defs₀ (F := F)) 𝒱₀ c none) Set.univ (cc2__epi_body (F := F) i arg1 harg1 arg2 harg2 arg3 harg3 (Memref.whole cc2_scratch0) (Memref.isWhole_whole _) (Memref.whole cc2_scratch1) (Memref.isWhole_whole _) cc2_scratch2 cc2_scratch3 cc2_scratch4 (Memref.whole cc2_scratch5) (Memref.isWhole_whole _)) Kt := by
  simp only [cc2__epi_body_eq_skeleton]; unfold cc2__epi_body_skel
  simp only [dif_pos h1, k2_part1_eq_skeleton, k2_part2_eq_skeleton, k2_part3_eq_skeleton, k2_part4_eq_skeleton]
  unfold k2_part1_skel k2_part2_skel k2_part3_skel k2_part4_skel
  simp only [semSignalWord, semWaitWord, smemLoad, smemLoadElt, Prog.lift, Prog.bind_op, Prog.bind_ret, Prog.pure_eq_ret, Prog.bind_assoc, wp_deviceId]
  simp only [pslot, e6_0, e6_1, e6_2, e8, ebar, e7, e7_1, e7_2, e7_3, dev2_1, dev2_2, dev2_3, dev2_4, dev2_5, dev2_6, dev2_7, dev2_8, dev2_9]
  unfold ePos eReached eToks eCreds eZeros owns
  iintro ⟨#HI, #Hlev, HO, Hbar, ⟨#Q1, #Q2, #Q3⟩, ⟨PA, P25, P26, P27, PR1, PR2, PR3⟩, ⟨#RA, #R25, #R26, #R27, #RR1, #RR2, #RR3⟩,
    ⟨⟨T0, T1, T2⟩, ⟨T3, T4⟩, ⟨T5, T6⟩, ⟨T7, T8⟩, ⟨T9, T10, T11⟩⟩, ⟨CB, C1, C2, C3, CA⟩, ⟨%f1, %hf1, H1⟩, ⟨%f2, %hf2, H2⟩, ⟨%d3, %f3, -, H3⟩, ⟨%fs, HS⟩, ⟨%fb, HB⟩, ⟨%d5, %f5, -, H5⟩, HK⟩
  subst hf2
  -- the slots, the device's own kept
  ihave HS' := ((slots_split c fs).1.trans (Entails.of_eq (show _ = iprop((sLoc c ↦[slotS c]{fullShare} fs) ∗ (sLoc c ↦[slotS (rot 1 c)]{fullShare} fs)
      ∗ (sLoc c ↦[slotS (rot 2 c)]{fullShare} fs) ∗ (sLoc c ↦[slotS (rot 3 c)]{fullShare} fs)) from rfl))) $$ HS
  icases HS' with ⟨S0, S1, S2, S3⟩
  -- the three barrier signals
  iapply (sig2 m κ c 0 (rot 1 c) 2 (by decide) 6 0 (pays2 c (amx m) 0 (d := rot 1 c) (s := 0) (ι := 6) (u := 1) rfl)
      (owed2_step c 0 (d := rot 1 c) (s := 0) (r := 0) (ι := 6) (u := 1) rfl)) $$ [HO T0 S1]
  · isplitr; · iexact HI
    isplitl [HO]; · iexact HO
    isplitl [T0]; · iexact T0
    isplitr; · iexact Q1
    rw [show pay2 (amx m) (regAt (rot 1 c) 2) 0 (c, 0) = iprop(slotAny c (rot 1 c) ∗ reached E2 (dmaAt c (recvSem (rot 1 c))) 0 ∗ reached E2 (regAt c 1) 0) from rfl]
    unfold slotAny
    isplitl [S1]; · iexists fs; iexact S1
    isplitr; · iexact RR1
    iexact RA
  iintro HO
  iapply (sig2 m κ c 1 (rot 2 c) 2 (by decide) 6 1 (pays2 c (amx m) 1 (d := rot 2 c) (s := 0) (ι := 6) (u := 1) rfl)
      (owed2_step c 1 (d := rot 2 c) (s := 0) (r := 0) (ι := 6) (u := 1) rfl)) $$ [HO T1 S2]
  · isplitr; · iexact HI
    isplitl [HO]; · iexact HO
    isplitl [T1]; · iexact T1
    isplitr; · iexact Q2
    rw [show pay2 (amx m) (regAt (rot 2 c) 2) 0 (c, 1) = iprop(slotAny c (rot 2 c) ∗ reached E2 (dmaAt c (recvSem (rot 2 c))) 0 ∗ reached E2 (regAt c 1) 0) from rfl]
    unfold slotAny
    isplitl [S2]; · iexists fs; iexact S2
    isplitr; · iexact RR2
    iexact RA
  iintro HO
  iapply (sig2 m κ c 2 (rot 3 c) 2 (by decide) 6 2 (pays2 c (amx m) 2 (d := rot 3 c) (s := 0) (ι := 6) (u := 1) rfl)
      (owed2_step c 2 (d := rot 3 c) (s := 0) (r := 0) (ι := 6) (u := 1) rfl)) $$ [HO T2 S3]
  · isplitr; · iexact HI
    isplitl [HO]; · iexact HO
    isplitl [T2]; · iexact T2
    isplitr; · iexact Q3
    rw [show pay2 (amx m) (regAt (rot 3 c) 2) 0 (c, 2) = iprop(slotAny c (rot 3 c) ∗ reached E2 (dmaAt c (recvSem (rot 3 c))) 0 ∗ reached E2 (regAt c 1) 0) from rfl]
    unfold slotAny
    isplitl [S3]; · iexists fs; iexact S3
    isplitr; · iexact RR3
    iexact RA
  iintro HO
  iapply (barWait2 m κ c 3 (by decide)) $$ [HO CB Hbar]
  · isplitr; · iexact HI
    isplitr; · iexact Hlev
    isplitl [HO]; · iexact HO
    isplitl [CB]; · iexact CB
    iexact Hbar
  iintro ⟨HO, Hbar, HP3, HP2, HP1⟩
  ihave HP3 := (Entails.of_eq (show (pay2 (amx m) (regAt c 2) 0 (rot 3 c, 0) : sProp 𝕄) = iprop((∃ f : S4x8x128.Idx → Elt F .f32, sLoc (rot 3 c) ↦[slotS c]{fullShare} f) ∗ reached E2 (dmaAt (rot 3 c) (recvSem c)) 0 ∗ reached E2 (regAt (rot 3 c) 1) 0) from rfl)) $$ HP3
  ihave HP2 := (Entails.of_eq (show (pay2 (amx m) (regAt c 2) 0 (rot 2 c, 1) : sProp 𝕄) = iprop((∃ f : S4x8x128.Idx → Elt F .f32, sLoc (rot 2 c) ↦[slotS c]{fullShare} f) ∗ reached E2 (dmaAt (rot 2 c) (recvSem c)) 0 ∗ reached E2 (regAt (rot 2 c) 1) 0) from rfl)) $$ HP2
  ihave HP1 := (Entails.of_eq (show (pay2 (amx m) (regAt c 2) 0 (rot 1 c, 2) : sProp 𝕄) = iprop((∃ f : S4x8x128.Idx → Elt F .f32, sLoc (rot 1 c) ↦[slotS c]{fullShare} f) ∗ reached E2 (dmaAt (rot 1 c) (recvSem c)) 0 ∗ reached E2 (regAt (rot 1 c) 1) 0) from rfl)) $$ HP1
  icases HP3 with ⟨⟨%g3, G3⟩, #D3, #A3⟩
  icases HP2 with ⟨⟨%g2, G2⟩, #D2, #A2⟩
  icases HP1 with ⟨⟨%g1, G1⟩, #D1, #A1⟩
  -- the device's number, in the block that it sends
  sl_step
  sl_step
  sl_step
  have hv : k2_pay2 (View.readAt (Elt F) arg1.view (Rect.unit (s := S1x1) ![0, 0] ![1, 1] inb_S1x1_S1x1_0_0).toLoadRect f1) = amx m c := by
    rw [amx, ← hf1]; exact congrArg k2_pay2 (View.readAt_full _ _ _)
  ihave HB := (Entails.of_eq (congrArg (fun g => (bLoc c ↦{fullShare} g : sProp 𝕄)) ((sent_eq fb _).trans (funext fun _ => hv)))) $$ HB
  ihave HB := ((pointsTo_share (PosShare.mem_left_op_right fullShare)).1) $$ HB
  icases HB with ⟨B0, HB⟩
  ihave HB := ((pointsTo_share (PosShare.mem_left_op_right fullShare.right)).1) $$ HB
  icases HB with ⟨B1, B2⟩
  -- the three transfers
  iapply (send2 m κ c 3 (rot 1 c) (dev2_4 c (k2_dev4_lt i c h1)).symm 0 3 4 rfl rfl rfl rfl (pays2 c (amx m) 3 (d := c) (s := 2) (ι := 7) (u := 128) rfl) (pays2_recv c (amx m) 4 (d := rot 1 c) rfl)
      (owed2_recv c 3 (d := rot 1 c) rfl) g1) $$ [HO B0 G1 T3 T4]
  · isplitr; · iexact HI
    isplitl [HO]; · iexact HO
    isplitl [B0]; · iexact B0
    isplitl [G1]; · iexact G1
    isplitl [T3]
    · isplitl [T3]; · iexact T3
      iexact R25
    isplitl [T4]; · iexact T4
    iexact D1
  iintro ⟨X0, HO⟩
  iapply (send2 m κ c 4 (rot 2 c) (dev2_5 c (k2_dev5_lt i c h1)).symm 1 5 6 rfl rfl rfl rfl (pays2 c (amx m) 5 (d := c) (s := 3) (ι := 7) (u := 128) rfl) (pays2_recv c (amx m) 6 (d := rot 2 c) rfl)
      (owed2_recv c 4 (d := rot 2 c) rfl) g2) $$ [HO B1 G2 T5 T6]
  · isplitr; · iexact HI
    isplitl [HO]; · iexact HO
    isplitl [B1]; · iexact B1
    isplitl [G2]; · iexact G2
    isplitl [T5]
    · isplitl [T5]; · iexact T5
      iexact R26
    isplitl [T6]; · iexact T6
    iexact D2
  iintro ⟨X1, HO⟩
  iapply (send2 m κ c 5 (rot 3 c) (dev2_6 c (k2_dev6_lt i c h1)).symm 2 7 8 rfl rfl rfl rfl (pays2 c (amx m) 7 (d := c) (s := 4) (ι := 7) (u := 128) rfl) (pays2_recv c (amx m) 8 (d := rot 3 c) rfl)
      (owed2_recv c 5 (d := rot 3 c) rfl) g3) $$ [HO B2 G3 T7 T8]
  · isplitr; · iexact HI
    isplitl [HO]; · iexact HO
    isplitl [B2]; · iexact B2
    isplitl [G3]; · iexact G3
    isplitl [T7]
    · isplitl [T7]; · iexact T7
      iexact R27
    isplitl [T8]; · iexact T8
    iexact D3
  iintro ⟨X2, HO⟩
  -- the waits: at the receiving cells, then at the sending ones
  iapply (wait2s m κ c 6 (recvSem (rot 1 c)) (recv_mem _) (recv2_wait (amx m) c 0) (by decide) (src := Memref.whole cc2_scratch1) (by rfl)) $$ [HO C1 PR1]
  · isplitr; · iexact HI
    isplitr; · iexact Hlev
    isplitl [HO]; · iexact HO
    isplitl [C1]; · iexact C1
    iexact PR1
  iintro ⟨HO, ZR1, S1⟩
  ihave S1 := (Entails.of_eq (dmaPay2_recv (amx m) c (rot 1 c))) $$ S1
  iapply (wait2s m κ c 6 (recvSem (rot 2 c)) (recv_mem _) (recv2_wait (amx m) c 1) (by decide) (src := Memref.whole cc2_scratch1) (by rfl)) $$ [HO C2 PR2]
  · isplitr; · iexact HI
    isplitr; · iexact Hlev
    isplitl [HO]; · iexact HO
    isplitl [C2]; · iexact C2
    iexact PR2
  iintro ⟨HO, ZR2, S2⟩
  ihave S2 := (Entails.of_eq (dmaPay2_recv (amx m) c (rot 2 c))) $$ S2
  iapply (wait2s m κ c 6 (recvSem (rot 3 c)) (recv_mem _) (recv2_wait (amx m) c 2) (by decide) (src := Memref.whole cc2_scratch1) (by rfl)) $$ [HO C3 PR3]
  · isplitr; · iexact HI
    isplitr; · iexact Hlev
    isplitl [HO]; · iexact HO
    isplitl [C3]; · iexact C3
    iexact PR3
  iintro ⟨HO, ZR3, S3⟩
  ihave S3 := (Entails.of_eq (dmaPay2_recv (amx m) c (rot 3 c))) $$ S3
  iapply (wait2s m κ c 6 (sendSem 0) (send_mem _) (send2_wait (amx m) c 0) (by decide) (dst := Memref.whole cc2_scratch1) (by rfl)) $$ [HO X0 P25]
  · isplitr; · iexact HI
    isplitr; · iexact Hlev
    isplitl [HO]; · iexact HO
    isplitl [X0]; · iexact X0
    iexact P25
  iintro ⟨HO, Z25, B0⟩
  ihave B0 := (Entails.of_eq (dmaPay2_send (amx m) c 0)) $$ B0
  iapply (wait2s m κ c 6 (sendSem 1) (send_mem _) (send2_wait (amx m) c 1) (by decide) (dst := Memref.whole cc2_scratch1) (by rfl)) $$ [HO X1 P26]
  · isplitr; · iexact HI
    isplitr; · iexact Hlev
    isplitl [HO]; · iexact HO
    isplitl [X1]; · iexact X1
    iexact P26
  iintro ⟨HO, Z26, B1⟩
  ihave B1 := (Entails.of_eq (dmaPay2_send (amx m) c 1)) $$ B1
  iapply (wait2s m κ c 6 (sendSem 2) (send_mem _) (send2_wait (amx m) c 2) (by decide) (dst := Memref.whole cc2_scratch1) (by rfl)) $$ [HO X2 P27]
  · isplitr; · iexact HI
    isplitr; · iexact Hlev
    isplitl [HO]; · iexact HO
    isplitl [X2]; · iexact X2
    iexact P27
  iintro ⟨HO, Z27, B2⟩
  ihave B2 := (Entails.of_eq (dmaPay2_send (amx m) c 2)) $$ B2
  -- the slots together again, and the scale from their first row
  ihave HS := (slots_join c (amx m) fs) $$ [S0 S1 S2 S3]
  · isplitl [S0]; · iexact S0
    isplitl [S1]; · iexact S1
    isplitl [S2]; · iexact S2
    iexact S3
  sl_step
  sl_step
  sl_step
  sl_step
  sl_step
  -- the acknowledgements
  iapply (sig2 m κ c 6 (rot 1 c) 1 (by decide) 8 9 (pays2 c (amx m) 9 (d := rot 1 c) (s := 1) (ι := 8) (u := 1) rfl)
      (owed2_step c 6 (d := rot 1 c) (s := 1) (r := 0) (ι := 8) (u := 1) rfl)) $$ [HO T9]
  · isplitr; · iexact HI
    isplitl [HO]; · iexact HO
    isplitl [T9]; · iexact T9
    isplitr; · iexact A1
    rw [show (pay2 (amx m) (regAt (rot 1 c) 1) 0 (c, 9) : sProp 𝕄) = iprop(emp) from rfl]
    iempintro
  iintro HO
  iapply (sig2 m κ c 7 (rot 2 c) 1 (by decide) 8 10 (pays2 c (amx m) 10 (d := rot 2 c) (s := 1) (ι := 8) (u := 1) rfl)
      (owed2_step c 7 (d := rot 2 c) (s := 1) (r := 0) (ι := 8) (u := 1) rfl)) $$ [HO T10]
  · isplitr; · iexact HI
    isplitl [HO]; · iexact HO
    isplitl [T10]; · iexact T10
    isplitr; · iexact A2
    rw [show (pay2 (amx m) (regAt (rot 2 c) 1) 0 (c, 10) : sProp 𝕄) = iprop(emp) from rfl]
    iempintro
  iintro HO
  iapply (sig2 m κ c 8 (rot 3 c) 1 (by decide) 8 11 (pays2 c (amx m) 11 (d := rot 3 c) (s := 1) (ι := 8) (u := 1) rfl)
      (owed2_step c 8 (d := rot 3 c) (s := 1) (r := 0) (ι := 8) (u := 1) rfl)) $$ [HO T11]
  · isplitr; · iexact HI
    isplitl [HO]; · iexact HO
    isplitl [T11]; · iexact T11
    isplitr; · iexact A3
    rw [show (pay2 (amx m) (regAt (rot 3 c) 1) 0 (c, 11) : sProp 𝕄) = iprop(emp) from rfl]
    iempintro
  iintro HO
  iapply (ackWait2 m κ c 9 (by decide)) $$ [HO CA PA]
  · isplitr; · iexact HI
    isplitr; · iexact Hlev
    isplitl [HO]; · iexact HO
    isplitl [CA]; · iexact CA
    iexact PA
  iintro ⟨HO, ZA⟩
  have hp : k2_pay4 (myW c) (amx m c) (View.readAt (Elt F) (Memref.whole cc2_scratch0).view (Rect.unit (s := S4x8x128) ![0, 0, 0] ![4, 1, 128] inb_S4x8x128_S4x1x128_0_0_0).toLoadRect (slotMix c (amx m) fs))
      = k2_pay4 (myW c) (amx m c) (slotR m) := pay4_congr c (amx m c) fun i hi => row_at c (amx m) fs i hi
  have h5 : k2_pay5 (Scalar.remsi (Scalar.divsi c.word 1#32) 4#32) (k2_pay2 (View.readAt (Elt F) arg1.view (Rect.unit (s := S1x1) ![0, 0] ![1, 1] inb_S1x1_S1x1_0_0).toLoadRect f1))
      (View.readAt (Elt F) (Memref.whole cc2_scratch0).view (Rect.unit (s := S4x8x128) ![0, 0, 0] ![4, 1, 128] inb_S4x8x128_S4x1x128_0_0_0).toLoadRect (slotMix c (amx m) fs)) = scl m c := by
    rw [hv]; exact congrArg (fun z => Scalar.divf z (Scalar.ofBits .f32 0x43E00000#32)) hp
  have h6 : k2_pay6 (Scalar.remsi (Scalar.divsi c.word 1#32) 4#32) (k2_pay2 (View.readAt (Elt F) arg1.view (Rect.unit (s := S1x1) ![0, 0] ![1, 1] inb_S1x1_S1x1_0_0).toLoadRect f1))
      (View.readAt (Elt F) (Memref.whole cc2_scratch0).view (Rect.unit (s := S4x8x128) ![0, 0, 0] ![4, 1, 128] inb_S4x8x128_S4x1x128_0_0_0).toLoadRect (slotMix c (amx m) fs)) = scli m c := by
    rw [hv]; exact congrArg (fun z => Scalar.divf (Scalar.ofBits .f32 0x43E00000#32) z) hp
  rw [h5, h6]
  -- the tile
  sl_exec
  sl_step
  iapply HK
  isplitl [HO]; · iexact HO
  isplitl [Hbar]; · iexact Hbar
  isplitl [ZA Z25 Z26 Z27 ZR1 ZR2 ZR3]
  · isplitl [ZA]; · iexact ZA
    isplitl [Z25]; · iexact Z25
    isplitl [Z26]; · iexact Z26
    isplitl [Z27]; · iexact Z27
    isplitl [ZR1]; · iexact ZR1
    isplitl [ZR2]; · iexact ZR2
    iexact ZR3
  isplitl [H1]
  · iexists f1; isplitr; · ipureintro; exact hf1
    iexact H1
  isplitl [H2]
  · iexists f2; isplitr; · ipureintro; rfl
    iexact H2
  isplitl [H3]
  · iexists _; isplitr
    swap; · iexact H3
    ipureintro
    rw [View.read_writes_full, View.readAt_full]
  isplitl [HS]; · iexists _; iexact HS
  isplitl [B0 B1 B2]
  · iexists (fun _ => amx m c)
    iapply ((pointsTo_share (PosShare.mem_left_op_right fullShare)).2)
    isplitl [B0]; · iexact B0
    iapply ((pointsTo_share (PosShare.mem_left_op_right fullShare.right)).2)
    isplitl [B1]; · iexact B1
    iexact B2
  iexists _; isplitr
  swap; · iexact H5
  ipureintro
  exact kept_eq f5 _ _

/-- Another point. -/
theorem epiOther (i : grid2.Coords) (arg1 : Memref sig .tc .vmem S1x1 .f32) (harg1 : arg1.IsWhole) (arg2 : Memref sig .tc .vmem S512x2048 .f32) (harg2 : arg2.IsWhole) (arg3 : Memref sig .tc .vmem S512x2048 .f32) (harg3 : arg3.IsWhole)
    (y : Vec F S512x2048 .f32) (Kt : PUnit → sProp (MT nD τ sig ℕ (Elt F) ℕ UU ℕ)) (h1 : ¬ k2_cond1 i = 1#1) :
    iprop(owns (c : Thread nD τ) arg2 fullShare y ∗ (∃ d, owns (c : Thread nD τ) arg3 fullShare d) ∗ owns (c : Thread nD τ) (Memref.whole cc2_scratch5) fullShare (sclV m c)
        ∗ ((owns (c : Thread nD τ) arg2 fullShare y ∗ owns (c : Thread nD τ) arg3 fullShare (k2_pay1 (scl m c) (scli m c) y)
            ∗ owns (c : Thread nD τ) (Memref.whole cc2_scratch5) fullShare (sclV m c)) -∗ Kt ⟨⟩))
      ⊢ wp frame (wpE (defs₀ (F := F)) 𝒱₀ c none) Set.univ (cc2__epi_body (F := F) i arg1 harg1 arg2 harg2 arg3 harg3 (Memref.whole cc2_scratch0) (Memref.isWhole_whole _) (Memref.whole cc2_scratch1) (Memref.isWhole_whole _) cc2_scratch2 cc2_scratch3 cc2_scratch4 (Memref.whole cc2_scratch5) (Memref.isWhole_whole _)) Kt := by
  simp only [cc2__epi_body_eq_skeleton]; unfold cc2__epi_body_skel
  simp only [dif_neg h1]
  unfold owns
  iintro ⟨⟨%f2, %hf2, H2⟩, ⟨%d3, %f3, -, H3⟩, ⟨%f5, %hf5, H5⟩, HK⟩
  subst hf2
  sl_exec
  sl_step
  iapply HK
  isplitl [H2]
  · iexists f2; isplitr; · ipureintro; rfl
    iexact H2
  isplitl [H3]
  · iexists _; isplitr
    swap; · iexact H3
    ipureintro
    rw [View.read_writes_full, View.readAt_full]
    have e0 : ∀ z, View.readAt (Elt F) (Memref.whole cc2_scratch5).view (Rect.unit (s := S2) ![0] ![1] inb_S2_S1_0).toLoadRect f5 z = scl m c := fun z =>
      (congrFun hf5 _).trans (if_pos (by have h : (z (0 : Fin 1)).val < 1 := (z (0 : Fin 1)).isLt; show 0 + 1 * (z (0 : Fin 1)).val = 0; omega))
    have e1 : ∀ z, View.readAt (Elt F) (Memref.whole cc2_scratch5).view (Rect.unit (s := S2) ![1] ![1] inb_S2_S1_1).toLoadRect f5 z = scli m c := fun z =>
      (congrFun hf5 _).trans (if_neg (by show ¬ 1 + 1 * (z (0 : Fin 1)).val = 0; omega))
    unfold epiOther.sl.r epiOther.sl.r_1
    exact congrFun (congr (congrArg k2_pay1 (e0 _)) (e1 _)) _
  iexists f5; isplitr; · ipureintro; exact hf5
  iexact H5

end Cert.Talk

end
-- ==== Proof.Enter.lean ====
/-
  A talking call's entry: its cells opened, and what it may pay and take, each by name.
-/
module

public import proofs.«01_k».proof.Proof.Data

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (c : Dev nD)

/-- A device's cells in a list, all opened. -/
theorem openAll (E : Emb URnd (MT nD τ sig ℕ (Elt F) ℕ UU ℕ)) (Rd : Schedule (GSem nD τ sig) (Dev nD × ℕ) 𝕄) [E.LandsIn (upEmb : UEmb _ 𝕄)] (κ : GSem nD τ sig → ℕ) (P : sProp 𝕄) [Persistent P] (l : List (SemLoc sig))
    (hP : ∀ sm ∈ l, P ⊢ cellInv E Rd (κ ((c.tc : Thread nD τ), sm)) ((c.tc : Thread nD τ), sm)) :
    iprop(P ∗ bigSepL l (fun sm => openTok E ((c.tc : Thread nD τ), sm)) ∗ bigSepL l (fun sm => semVal ((c.tc : Thread nD τ), sm) 0))
      ⊢ |={Set.univ}=> iprop(bigSepL l (fun sm => atPos E ((c.tc : Thread nD τ), sm) 0 ∅ 0) ∗ bigSepL l (fun sm => reached E ((c.tc : Thread nD τ), sm) 0)) := by
  induction l with
  | nil =>
    show _ ⊢ |={Set.univ}=> iprop(emp ∗ emp)
    iintro -; imodintro; isplit <;> iempintro
  | cons a l ih =>
    simp only [bigSepL_cons']
    iintro ⟨#HP, ⟨Ho, Hos⟩, ⟨Hv, Hvs⟩⟩
    imod (Rounds.cell_open E Rd (g := ((c.tc : Thread nD τ), a)) (Set.mem_univ (κ ((c.tc : Thread nD τ), a)))) $$ [Ho Hv] with ⟨Ha, Hr⟩
    · isplitr; · iapply (hP a List.mem_cons_self); iexact HP
      isplitl [Ho] <;> iassumption
    imod (ih fun sm h => hP sm (List.mem_cons_of_mem _ h)) $$ [Hos Hvs] with ⟨Has, Hrs⟩
    · isplitr; · iexact HP
      isplitl [Hos] <;> iassumption
    imodintro
    isplitl [Ha Has]; · isplitl [Ha] <;> iassumption
    isplitl [Hr] <;> iassumption

/-- The four devices, from device c round. -/
theorem around (Ψ : Dev nD → sProp 𝕄) : iprop(Ψ 0 ∗ Ψ 1 ∗ Ψ 2 ∗ Ψ 3) = iprop(Ψ c ∗ Ψ (rot 1 c) ∗ Ψ (rot 2 c) ∗ Ψ (rot 3 c)) := by
  have h1 : bigSep Finset.univ Ψ = iprop(Ψ 0 ∗ Ψ 1 ∗ Ψ 2 ∗ Ψ 3) := bigSep_eq_bigSepL_of_eq [0, 1, 2, 3] (by decide) (by decide) _
  have h2 : bigSep Finset.univ Ψ = iprop(Ψ c ∗ Ψ (rot 1 c) ∗ Ψ (rot 2 c) ∗ Ψ (rot 3 c)) := bigSep_eq_bigSepL_of_eq _ (devs4 c) (devs4_nodup c) _
  rw [← h1, h2]

/-! ## The first talking call -/

/-- The first talking call's own semaphores. -/
def osem0 (k : Fin 13) : SemLoc sig := .dma ⟨k.val, by revert k; decide⟩

theorem ownSems0_zeros : (Pipeline.ownSems0 osem0 c : sProp 𝕄) = gZeros c :=
  bigSep_eq_bigSepL_of_eq [0, 1, 2, 3, 4, 5, 6, 7, 8, 9, 10, 11, 12] (by decide) (by decide) _

theorem toks0_eq : (bigSepL (rows0 c 0).zipIdx fun x => dutyTok E0 (cellN bar0 (dorm0 0) x.1.1 x.1.2.1) x.1.2.2.1 (c, x.2) : sProp 𝕄) = gToks c := by
  show iprop(dutyTok E0 (cellN bar0 (dorm0 0) (rot 3 c).val 0) 0 (c, 0) ∗ dutyTok E0 (cellN bar0 (dorm0 0) (rot 1 c).val 0) 0 (c, 1) ∗ dutyTok E0 (cellN bar0 (dorm0 0) c.val 13) 0 (c, 2)
    ∗ dutyTok E0 (cellN bar0 (dorm0 0) c.val 1) 0 (c, 3) ∗ dutyTok E0 (cellN bar0 (dorm0 0) (rot 1 c).val 4) 0 (c, 4) ∗ dutyTok E0 (cellN bar0 (dorm0 0) c.val 7) 0 (c, 5) ∗ dutyTok E0 (cellN bar0 (dorm0 0) (rot 3 c).val 10) 0 (c, 6)
    ∗ dutyTok E0 (cellN bar0 (dorm0 0) c.val 2) 0 (c, 7) ∗ dutyTok E0 (cellN bar0 (dorm0 0) (rot 1 c).val 5) 0 (c, 8) ∗ dutyTok E0 (cellN bar0 (dorm0 0) c.val 8) 0 (c, 9) ∗ dutyTok E0 (cellN bar0 (dorm0 0) (rot 3 c).val 11) 0 (c, 10)
    ∗ dutyTok E0 (cellN bar0 (dorm0 0) c.val 3) 0 (c, 11) ∗ dutyTok E0 (cellN bar0 (dorm0 0) (rot 1 c).val 6) 0 (c, 12) ∗ dutyTok E0 (cellN bar0 (dorm0 0) c.val 9) 0 (c, 13) ∗ dutyTok E0 (cellN bar0 (dorm0 0) (rot 3 c).val 12) 0 (c, 14)) = _
  rw [cellN_val, cellN_val, cellN_val, cellN_val, cellN_val, cellN_val, cellN_val, cellN_val, cellN_val, cellN_val, cellN_val, cellN_val, cellN_val, cellN_val, cellN_val]; rfl

/-- Who pays device d among the others, in the first talking call. -/
def inc0 (d : Dev nD) : List (Dev nD × ℕ × Row) :=
  [(rot 1 d, 0, (d.val, 0, 0, 1, 1)), (rot 3 d, 1, (d.val, 0, 0, 1, 1)), (rot 3 d, 2, (d.val, 4, 0, 2, 262144)), (rot 1 d, 3, (d.val, 10, 0, 2, 262144)),
   (rot 3 d, 4, (d.val, 5, 0, 3, 262144)), (rot 1 d, 5, (d.val, 11, 0, 3, 262144)), (rot 3 d, 6, (d.val, 6, 0, 4, 262144)), (rot 1 d, 7, (d.val, 12, 0, 4, 262144))]
theorem inc0_perm : ∀ d : Dev nD, (incoming rem0 0 d).Perm (inc0 d) := by decide +kernel

theorem creds0_eq : (Pipeline.launchCred due0 c : sProp 𝕄) ⊢ gCreds c := by
  rw [show (Pipeline.launchCred due0 c : sProp 𝕄) = bigSepL (inc0 c) fun x => cred (payN bar0 (dorm0 0) (rowPay x.2.2)).tally from
    launchCred_of bar0 (dorm0 0) 0 c (inc0_perm c)]
  rw [show (bigSepL (inc0 c) fun x => (cred (payN bar0 (dorm0 0) (rowPay x.2.2)).tally : sProp 𝕄))
    = iprop(cred (payN bar0 (dorm0 0) (c.val, 0, 1, 1)).tally ∗ cred (payN bar0 (dorm0 0) (c.val, 0, 1, 1)).tally
      ∗ cred (payN bar0 (dorm0 0) (c.val, 4, 2, 262144)).tally ∗ cred (payN bar0 (dorm0 0) (c.val, 10, 2, 262144)).tally
      ∗ cred (payN bar0 (dorm0 0) (c.val, 5, 3, 262144)).tally ∗ cred (payN bar0 (dorm0 0) (c.val, 11, 3, 262144)).tally
      ∗ cred (payN bar0 (dorm0 0) (c.val, 6, 4, 262144)).tally ∗ cred (payN bar0 (dorm0 0) (c.val, 12, 4, 262144)).tally) from rfl]
  simp only [payN_val]
  unfold gCreds
  rw [← tallyAt_add (regAt c 0) 1 1 1]
  iintro ⟨H0, H1, H2, H3, H4, H5, H6, H7⟩
  isplitl [H0 H1]
  · iapply (cred_add _ _).2
    isplitl [H0]; · iexact H0
    iexact H1
  isplitl [H2]; · iexact H2
  isplitl [H3]; · iexact H3
  isplitl [H4]; · iexact H4
  isplitl [H5]; · iexact H5
  isplitl [H6]; · iexact H6
  iexact H7

/-- The neighbours that a device signals at the first talking call's start. -/
def nb0 (c : Dev nD) : Finset (Dev nD) := {rot 3 c, rot 1 c}
theorem nb0_eq : ∀ c, nb0 c = [rot 3 c, rot 1 c].toFinset := by decide
theorem nb0_nodup : ∀ c : Dev nD, [rot 3 c, rot 1 c].Nodup := by decide

/-- What the launch leaves for the first talking call. -/
def start0 : sProp 𝕄 := iprop(Fm0.launched E0 (Rd0 m) nb0 c ∗ Pipeline.launchCred due0 c)

theorem inv0_any (κ : GSem nD τ sig → ℕ) (sm : SemLoc sig) (h : sm ∈ dorm0 0) : invs0 m κ ⊢ cellInv E0 (Rd0 m) (κ ((c.tc : Thread nD τ), sm)) ((c.tc : Thread nD τ), sm) :=
  Fm0.cellInvs_dorm E0 (Rd0 m) κ c (j := 0) (List.mem_toFinset.mpr h)

theorem nb0_reached : (bigSep (nb0 c) fun n => (reached E0 ((n.tc : Thread nD τ), Fm0.bar) 0 : sProp 𝕄)) = iprop(reached E0 (regAt (rot 3 c) 0) 0 ∗ reached E0 (regAt (rot 1 c) 0) 0) :=
  bigSep_eq_bigSepL_of_eq [rot 3 c, rot 1 c] (nb0_eq c) (nb0_nodup c) _

/-- The first talking call's entry. -/
theorem open0 : iprop(start0 m c ∗ Pipeline.ownSems0 osem0 c ∗ levAts (L 9) lv) ⊢ |={Set.univ}=> enter0 m c := by
  rw [ownSems0_zeros]
  unfold start0 Fam.launched Fam.barPos
  rw [show (bigSep Finset.univ fun j => (Fm0.rides E0 (Rd0 m) c j : sProp 𝕄)) = Fm0.rides E0 (Rd0 m) c 0 from bigSep_eq_bigSepL_of_eq [0] (by decide) (by decide) _,
    Fam.rides_ofRows bar0 dorm0 rows0 hsem0 hrow0 E0 (Rd0 m) c 0 (by decide), toks0_eq]
  iintro ⟨⟨⟨⟨⟨%κ', -⟩, Hat, Hnb⟩, ⟨⟨%κ, #HI⟩, Hop, Htok⟩⟩, Hcr⟩, Hz, Hlev⟩
  ihave Hcr' := (creds0_eq c) $$ Hcr
  ihave Hnb' := (Entails.of_eq (nb0_reached c)) $$ Hnb
  imod (openAll c E0 (Rd0 m) κ (invs0 m κ) (dorm0 0) (inv0_any m c κ)) $$ [Hop Hz] with ⟨Hp, Hr⟩
  · isplitr; · iexact HI
    isplitl [Hop]; · iexact Hop
    iapply (Entails.of_eq (show (gZeros c : sProp 𝕄) = bigSepL (dorm0 0) fun sm => semVal ((c.tc : Thread nD τ), sm) 0 from rfl)); iexact Hz
  imodintro
  unfold enter0
  iexists κ
  isplitr; · iexact HI
  isplitl [Hlev]; · iexact Hlev
  isplitl [Hat]; · iexact Hat
  isplitl [Hnb']; · iexact Hnb'
  isplitl [Hp]; · iapply (Entails.of_eq (show (bigSepL (dorm0 0) fun sm => (atPos E0 ((c.tc : Thread nD τ), sm) 0 ∅ 0 : sProp 𝕄)) = gPos c from rfl)); iexact Hp
  isplitl [Hr]; · iapply (Entails.of_eq (show (bigSepL (dorm0 0) fun sm => (reached E0 ((c.tc : Thread nD τ), sm) 0 : sProp 𝕄)) = gReached c from rfl)); iexact Hr
  isplitl [Htok]; · iexact Htok
  iexact Hcr'

/-! ## The second talking call -/

/-- The second talking call's own semaphores. -/
def osem2 (k : Fin 8) : SemLoc sig := if k.val = 0 then .reg 1 else .dma ⟨k.val + 24, by revert k; decide⟩

/-- The cells that a device opens in the second talking call: its receiving cell for itself stays closed. -/
def cells2 : List (SemLoc sig) := [.reg 1, .dma 25, .dma 26, .dma 27, .dma (recvSem (rot 1 c)), .dma (recvSem (rot 2 c)), .dma (recvSem (rot 3 c))]

/-- Everything about the dormant cells, the device's own receiving cell apart. -/
theorem dorm2_split (Ψ : SemLoc sig → sProp 𝕄) : bigSepL (dorm2 0) Ψ ⊢ iprop(bigSepL (cells2 c) Ψ ∗ Ψ (.dma (recvSem c))) := by
  have h := around c fun d => Ψ (.dma (recvSem d))
  show iprop(Ψ (.reg 1) ∗ Ψ (.dma 25) ∗ Ψ (.dma 26) ∗ Ψ (.dma 27) ∗ Ψ (.dma (recvSem 0)) ∗ Ψ (.dma (recvSem 1)) ∗ Ψ (.dma (recvSem 2)) ∗ Ψ (.dma (recvSem 3))) ⊢ _
  rw [h]
  show _ ⊢ iprop((Ψ (.reg 1) ∗ Ψ (.dma 25) ∗ Ψ (.dma 26) ∗ Ψ (.dma 27) ∗ Ψ (.dma (recvSem (rot 1 c))) ∗ Ψ (.dma (recvSem (rot 2 c))) ∗ Ψ (.dma (recvSem (rot 3 c)))) ∗ Ψ (.dma (recvSem c)))
  iintro ⟨A, B, C, D, E, F', G, H⟩
  isplitr [E]
  · isplitl [A]; · iexact A
    isplitl [B]; · iexact B
    isplitl [C]; · iexact C
    isplitl [D]; · iexact D
    isplitl [F']; · iexact F'
    isplitl [G] <;> iassumption
  iexact E
theorem dorm2_join (Ψ : SemLoc sig → sProp 𝕄) : iprop(bigSepL (cells2 c) Ψ ∗ Ψ (.dma (recvSem c))) ⊢ bigSepL (dorm2 0) Ψ := by
  have h := around c fun d => Ψ (.dma (recvSem d))
  show _ ⊢ iprop(Ψ (.reg 1) ∗ Ψ (.dma 25) ∗ Ψ (.dma 26) ∗ Ψ (.dma 27) ∗ Ψ (.dma (recvSem 0)) ∗ Ψ (.dma (recvSem 1)) ∗ Ψ (.dma (recvSem 2)) ∗ Ψ (.dma (recvSem 3)))
  rw [h]
  show iprop((Ψ (.reg 1) ∗ Ψ (.dma 25) ∗ Ψ (.dma 26) ∗ Ψ (.dma 27) ∗ Ψ (.dma (recvSem (rot 1 c))) ∗ Ψ (.dma (recvSem (rot 2 c))) ∗ Ψ (.dma (recvSem (rot 3 c)))) ∗ Ψ (.dma (recvSem c))) ⊢ _
  iintro ⟨⟨A, B, C, D, F', G, H⟩, E⟩
  isplitl [A]; · iexact A
  isplitl [B]; · iexact B
  isplitl [C]; · iexact C
  isplitl [D]; · iexact D
  isplitl [E]; · iexact E
  isplitl [F']; · iexact F'
  isplitl [G] <;> iassumption

theorem ownSems2_zeros : (Pipeline.ownSems0 osem2 c : sProp 𝕄) = bigSepL (dorm2 0) fun sm => semVal ((c.tc : Thread nD τ), sm) 0 :=
  bigSep_eq_bigSepL_of_eq [0, 1, 2, 3, 4, 5, 6, 7] (by decide) (by decide) _

theorem toks2_eq : (bigSepL (rows2 c 0).zipIdx fun x => dutyTok E2 (cellN bar2 (dorm2 0) x.1.1 x.1.2.1) x.1.2.2.1 (c, x.2) : sProp 𝕄) ⊢ eToks c := by
  have hs : ∀ c : Dev nD, (bar2 :: dorm2 0).getD (5 + c.val) bar2 = .dma (recvSem c) := by decide
  rw [show (bigSepL (rows2 c 0).zipIdx fun x => dutyTok E2 (cellN bar2 (dorm2 0) x.1.1 x.1.2.1) x.1.2.2.1 (c, x.2) : sProp 𝕄)
    = iprop(dutyTok E2 (cellN bar2 (dorm2 0) (rot 1 c).val 0) 0 (c, 0) ∗ dutyTok E2 (cellN bar2 (dorm2 0) (rot 2 c).val 0) 0 (c, 1) ∗ dutyTok E2 (cellN bar2 (dorm2 0) (rot 3 c).val 0) 0 (c, 2)
    ∗ dutyTok E2 (cellN bar2 (dorm2 0) c.val 2) 0 (c, 3) ∗ dutyTok E2 (cellN bar2 (dorm2 0) (rot 1 c).val (5 + c.val)) 0 (c, 4) ∗ dutyTok E2 (cellN bar2 (dorm2 0) c.val 3) 0 (c, 5) ∗ dutyTok E2 (cellN bar2 (dorm2 0) (rot 2 c).val (5 + c.val)) 0 (c, 6)
    ∗ dutyTok E2 (cellN bar2 (dorm2 0) c.val 4) 0 (c, 7) ∗ dutyTok E2 (cellN bar2 (dorm2 0) (rot 3 c).val (5 + c.val)) 0 (c, 8)
    ∗ dutyTok E2 (cellN bar2 (dorm2 0) (rot 1 c).val 1) 0 (c, 9) ∗ dutyTok E2 (cellN bar2 (dorm2 0) (rot 2 c).val 1) 0 (c, 10) ∗ dutyTok E2 (cellN bar2 (dorm2 0) (rot 3 c).val 1) 0 (c, 11)) from rfl]
  rw [cellN_val, cellN_val, cellN_val, cellN_val, cellN_val, cellN_val, cellN_val, cellN_val, cellN_val, cellN_val, cellN_val, cellN_val, hs]
  unfold eToks
  iintro ⟨A0, A1, A2, A3, A4, A5, A6, A7, A8, A9, A10, A11⟩
  isplitl [A0 A1 A2]
  · isplitl [A0]; · iexact A0
    isplitl [A1]; · iexact A1
    iexact A2
  isplitl [A3 A4]
  · isplitl [A3]; · iexact A3
    iexact A4
  isplitl [A5 A6]
  · isplitl [A5]; · iexact A5
    iexact A6
  isplitl [A7 A8]
  · isplitl [A7]; · iexact A7
    iexact A8
  isplitl [A9]; · iexact A9
  isplitl [A10]; · iexact A10
  iexact A11

/-- Who pays device d among the others, in the second talking call. -/
def inc2 (d : Dev nD) : List (Dev nD × ℕ × Row) :=
  [(rot 3 d, 0, (d.val, 0, 0, 6, 1)), (rot 2 d, 1, (d.val, 0, 0, 6, 1)), (rot 1 d, 2, (d.val, 0, 0, 6, 1)),
   (rot 3 d, 3, (d.val, 5 + (rot 3 d).val, 0, 7, 128)), (rot 2 d, 4, (d.val, 5 + (rot 2 d).val, 0, 7, 128)), (rot 1 d, 5, (d.val, 5 + (rot 1 d).val, 0, 7, 128)),
   (rot 3 d, 6, (d.val, 1, 0, 8, 1)), (rot 2 d, 7, (d.val, 1, 0, 8, 1)), (rot 1 d, 8, (d.val, 1, 0, 8, 1))]
theorem inc2_perm : ∀ d : Dev nD, (incoming rem2 0 d).Perm (inc2 d) := by decide +kernel

theorem creds2_eq : (Pipeline.launchCred due2 c : sProp 𝕄) ⊢ eCreds c := by
  have hs : ∀ d : Dev nD, (bar2 :: dorm2 0).getD (5 + d.val) bar2 = .dma (recvSem d) := by decide
  rw [show (Pipeline.launchCred due2 c : sProp 𝕄) = bigSepL (inc2 c) fun x => cred (payN bar2 (dorm2 0) (rowPay x.2.2)).tally from
    launchCred_of bar2 (dorm2 0) 0 c (inc2_perm c)]
  rw [show (bigSepL (inc2 c) fun x => (cred (payN bar2 (dorm2 0) (rowPay x.2.2)).tally : sProp 𝕄))
    = iprop(cred (payN bar2 (dorm2 0) (c.val, 0, 6, 1)).tally ∗ cred (payN bar2 (dorm2 0) (c.val, 0, 6, 1)).tally ∗ cred (payN bar2 (dorm2 0) (c.val, 0, 6, 1)).tally
      ∗ cred (payN bar2 (dorm2 0) (c.val, 5 + (rot 3 c).val, 7, 128)).tally ∗ cred (payN bar2 (dorm2 0) (c.val, 5 + (rot 2 c).val, 7, 128)).tally ∗ cred (payN bar2 (dorm2 0) (c.val, 5 + (rot 1 c).val, 7, 128)).tally
      ∗ cred (payN bar2 (dorm2 0) (c.val, 1, 8, 1)).tally ∗ cred (payN bar2 (dorm2 0) (c.val, 1, 8, 1)).tally ∗ cred (payN bar2 (dorm2 0) (c.val, 1, 8, 1)).tally) from rfl]
  rw [payN_val, payN_val, payN_val, payN_val, payN_val, hs, hs, hs]
  unfold eCreds
  rw [show (tallyAt (regAt c 2) 6 3 : CellTallies nD τ sig ℕ) = tallyAt (regAt c 2) 6 1 + (tallyAt (regAt c 2) 6 1 + tallyAt (regAt c 2) 6 1) by rw [tallyAt_add, tallyAt_add],
    show (tallyAt (regAt c 1) 8 3 : CellTallies nD τ sig ℕ) = tallyAt (regAt c 1) 8 1 + (tallyAt (regAt c 1) 8 1 + tallyAt (regAt c 1) 8 1) by rw [tallyAt_add, tallyAt_add]]
  iintro ⟨H0, H1, H2, H3, H4, H5, H6, H7, H8⟩
  isplitl [H0 H1 H2]
  · iapply (cred_add _ _).2
    isplitl [H0]; · iexact H0
    iapply (cred_add _ _).2
    isplitl [H1]; · iexact H1
    iexact H2
  isplitl [H5]; · iexact H5
  isplitl [H4]; · iexact H4
  isplitl [H3]; · iexact H3
  iapply (cred_add _ _).2
  isplitl [H6]; · iexact H6
  iapply (cred_add _ _).2
  isplitl [H7]; · iexact H7
  iexact H8

/-- The others, whom a device signals at the second talking call's start. -/
def nb2 (c : Dev nD) : Finset (Dev nD) := {rot 1 c, rot 2 c, rot 3 c}
theorem nb2_eq : ∀ c, nb2 c = [rot 1 c, rot 2 c, rot 3 c].toFinset := by decide
theorem nb2_nodup : ∀ c : Dev nD, [rot 1 c, rot 2 c, rot 3 c].Nodup := by decide

/-- What the launch leaves for the second talking call. -/
def start2 : sProp 𝕄 := iprop(Fm2.launched E2 (Rd2 (amx m)) nb2 c ∗ Pipeline.launchCred due2 c)

theorem inv2_any (κ : GSem nD τ sig → ℕ) (sm : SemLoc sig) (h : sm ∈ dorm2 0) : invs2 m κ ⊢ cellInv E2 (Rd2 (amx m)) (κ ((c.tc : Thread nD τ), sm)) ((c.tc : Thread nD τ), sm) :=
  Fm2.cellInvs_dorm E2 (Rd2 (amx m)) κ c (j := 0) (List.mem_toFinset.mpr h)

theorem nb2_reached : (bigSep (nb2 c) fun n => (reached E2 ((n.tc : Thread nD τ), Fm2.bar) 0 : sProp 𝕄))
    = iprop(reached E2 (regAt (rot 1 c) 2) 0 ∗ reached E2 (regAt (rot 2 c) 2) 0 ∗ reached E2 (regAt (rot 3 c) 2) 0) :=
  bigSep_eq_bigSepL_of_eq [rot 1 c, rot 2 c, rot 3 c] (nb2_eq c) (nb2_nodup c) _

/-- The second talking call's entry. -/
theorem open2 : iprop(start2 m c ∗ Pipeline.ownSems0 osem2 c ∗ levAts (L 9) lv) ⊢ |={Set.univ}=> enter2 m c := by
  rw [ownSems2_zeros]
  unfold start2 Fam.launched Fam.barPos
  rw [show (bigSep Finset.univ fun j => (Fm2.rides E2 (Rd2 (amx m)) c j : sProp 𝕄)) = Fm2.rides E2 (Rd2 (amx m)) c 0 from bigSep_eq_bigSepL_of_eq [0] (by decide) (by decide) _,
    Fam.rides_ofRows bar2 dorm2 rows2 hsem2 hrow2 E2 (Rd2 (amx m)) c 0 (by decide)]
  iintro ⟨⟨⟨⟨⟨%κ', -⟩, Hat, Hnb⟩, ⟨⟨%κ, #HI⟩, Hop, Htok⟩⟩, Hcr⟩, Hz, Hlev⟩
  ihave Htok' := (toks2_eq c) $$ Htok
  ihave Hcr' := (creds2_eq c) $$ Hcr
  ihave Hnb' := (Entails.of_eq (nb2_reached c)) $$ Hnb
  ihave Hop' := (dorm2_split c _) $$ Hop
  ihave Hz' := (dorm2_split c _) $$ Hz
  icases Hop' with ⟨Hop, -⟩
  icases Hz' with ⟨Hz, Hz0⟩
  imod (openAll c E2 (Rd2 (amx m)) κ (invs2 m κ) (cells2 c) (fun sm h => inv2_any m c κ sm (by revert sm c; decide))) $$ [Hop Hz] with ⟨Hp, Hr⟩
  · isplitr; · iexact HI
    isplitl [Hop]; · iexact Hop
    iexact Hz
  imodintro
  unfold enter2
  iexists κ
  isplitr; · iexact HI
  isplitl [Hlev]; · iexact Hlev
  isplitl [Hat]; · iexact Hat
  isplitl [Hnb']; · iexact Hnb'
  isplitl [Hp]; · iapply (Entails.of_eq (show (bigSepL (cells2 c) fun sm => (atPos E2 ((c.tc : Thread nD τ), sm) 0 ∅ 0 : sProp 𝕄)) = ePos c from rfl)); iexact Hp
  isplitl [Hr]; · iapply (Entails.of_eq (show (bigSepL (cells2 c) fun sm => (reached E2 ((c.tc : Thread nD τ), sm) 0 : sProp 𝕄)) = eReached c from rfl)); iexact Hr
  isplitl [Htok']; · iexact Htok'
  isplitl [Hcr']; · iexact Hcr'
  iexact Hz0

end Cert.Talk

end
-- ==== Proof.GatherRegion.lean ====
/-
  The first talking call as a region: its one point, its entry and its exit.
-/
module

public import proofs.«01_k».proof.Proof.Enter

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (c : Dev nD)

/-- The three calls' one way to be admitted. -/
abbrev adm : (p : Fin 3) → (pcfgs (F := F) p).Adm := fun p => (cfgs p).toPCfg_adm

/-- The launch's facts about a call. -/
theorem kitP (p : Fin 3) : Pipeline.PLaunchFacts (nD := nD) (τ := τ) (pcfgs (F := F)) p where
  cellOf_inj a := by rw [Subsingleton.elim a adm]; exact cellOf_inj
  win := by fin_cases p; exacts [winFacts0, winFacts1, winFacts2]
  pre := Pipeline.PreFacts.none _
  block_pos := by fin_cases p; exacts [block_pos0, block_pos1, block_pos2]
  arr_whole := by fin_cases p; exacts [arr_whole0, arr_whole1, arr_whole2]
  stage_whole := by fin_cases p; exacts [stage_whole0, stage_whole1, stage_whole2]

/-- What is owed when the first call begins lies above the staging waits. -/
theorem above02 : Above 9 1 fun c : Dev nD => due2 c + due0 c :=
  talk_above (nD := nD) (τ := τ) (sig := sig) (N := 9) (b := 1) (w := 5) (by decide) above2 (fun d => duesR bar0 (dorm0 0) (rem0 d 0)) (fun c x hx => by
    obtain ⟨y, hy, rfl⟩ := List.mem_map.mp (List.mem_reverse.mp hx)
    exact ⟨rfl, (by decide : ∀ c : Dev nD, ∀ y ∈ rem0 c 0, 1 ≤ y.2.2.2.1 ∧ y.2.2.2.1 < 1 + 5) c y hy⟩)

theorem held0 (W : Valuation τ sig (Elt F)) : (StableHlo.held (c.tc : Thread nD τ) hs0 W : sProp 𝕄)
    = iprop((xLoc c ↦{fullShare} W (Proc.devRef .tc main_arg0)) ∗ (vLoc c ↦{fullShare} W (Proc.devRef .tc main_v1))) := by
  unfold StableHlo.held
  rw [bigSep_eq_bigSepL_of_eq [Proc.devRef .tc main_arg0, Proc.devRef .tc main_v1] (by decide) (by decide)]
  rfl

theorem W1_x : W1 m c (Proc.devRef .tc main_arg0) = xOf m c := Function.update_of_ne (by decide) _ _
theorem W1_v : W1 m c (Proc.devRef .tc main_v1) = gath m := Function.update_self _ _ _

theorem bigSep_W0 (Φ : Fin cfg0.W → sProp 𝕄) : bigSep Finset.univ Φ = iprop(emp) := bigSep_univ_eq_bigSepL [] (by decide) (by decide) Φ

/-- The first call's one point. -/
theorem body0 : Pipeline.BodyObligation (dat0 (F := F) m c) (defs₀ (F := F)) 𝒱₀ 0 Set.univ := fun t => by
  obtain rfl := fin_N0 t
  rw [bigSep_W0, bigSep_W0]
  rw [show (dat0 m c).Φ (Fin.castSucc t0_0) = iprop(Pipeline.scopedRest cfg0.spec c ∗ anyPrng c ∗ StableHlo.held (c.tc : Thread nD τ) hs0 (W0 m c) ∗ enter0 m c) from rfl,
    show (dat0 m c).Φ (Fin.succ t0_0) = iprop(Pipeline.scopedRest cfg0.spec c ∗ anyPrng c ∗ StableHlo.held (c.tc : Thread nD τ) hs0 (W1 m c) ∗ gZeros c ∗ kept0 m c) from rfl,
    held0, held0, W1_x, W1_v]
  unfold enter0
  iintro ⟨⟨Hs, Hp, ⟨Hx, Hv⟩, ⟨%κ, #HI, #Hlev, Hat, Hnb, HP, HR, HT, HC⟩⟩, HO, -⟩
  ihave HO' := (owesAt_elim (dat0 m c) 0 (Fin.castSucc t0_0) (due2 c + due0 c) rfl) $$ HO
  iapply (gatherBody m κ c above2 _)
  isplitr; · iexact HI
  isplitr; · iexact Hlev
  isplitl [HO']; · rw [owed0_zero]; iapply (Entails.of_eq (show (iprop(∃ W, owes (c : Thread nD τ) (due2 c + due0 c) W) : sProp 𝕄) = ow c (due2 c + due0 c) from rfl)); iexact HO'
  isplitl [Hat]; · iexact Hat
  isplitl [Hnb]; · iexact Hnb
  isplitl [HP]; · iexact HP
  isplitl [HR]; · iexact HR
  isplitl [HT]; · iexact HT
  isplitl [HC]; · iexact HC
  isplitl [Hx]; · iexact Hx
  isplitl [Hv]; · iexists _; iexact Hv
  iintro ⟨HO', Hat, HZ, Hx, Hv⟩
  ihave HO := (Entails.of_eq (show ow c (due2 c) = (iprop(∃ W, owes (c : Thread nD τ) (due2 c) W) : sProp 𝕄) from rfl)) $$ HO'
  icases HO with ⟨%W, HO⟩
  isplitl [Hs Hp Hat HZ Hx Hv]
  · isplitl [Hs]; · iexact Hs
    isplitl [Hp]; · iexact Hp
    isplitl [Hx Hv]; · isplitl [Hx] <;> iassumption
    isplitl [HZ]; · iexact HZ
    unfold kept0 Fam.barPos
    isplitr; · iexists κ; iexact HI
    isplitl [Hat]; · iexact Hat
    rw [BI.bigSep_empty]; iempintro
  isplitl [HO]; · iapply (owesAt_intro (dat0 m c) 0 (Fin.succ t0_0) (due2 c) rfl rfl W); iexact HO
  iempintro

theorem hin0 : iprop(Pipeline.scopedRest cfg0.spec c ∗ (∃ r, prngReg c r) ∗ StableHlo.held (c.tc : Thread nD τ) hs0 (W0 m c) ∗ enter0 m c) ⊢ (dat0 (F := F) m c).Φ 0 := .rfl

theorem hout0 : (dat0 (F := F) m c).Φ (Fin.last cfg0.N)
    ⊢ iprop(Pipeline.scopedRest cfg0.spec c ∗ (∃ r, prngReg c r) ∗ StableHlo.held (c.tc : Thread nD τ) hs0 (W1 m c) ∗ Pipeline.ownSems0 osem0 c ∗ kept0 m c) := by
  rw [ownSems0_zeros]; exact .rfl

theorem cut0 (t : Fin (cfg0.N + 1)) (g : GSem nD τ sig) (i : ℕ) (h : 0 < (dat0 (F := F) m c).owed t g i) : i ∈ L 9 g ∧ (0 : ℕ) < lv g i := by
  rw [show (dat0 (F := F) m c).owed t = if t.val = 0 then due2 c + due0 c else due2 c from rfl] at h
  split at h
  · exact ⟨(above02 c g i h).1, lt_of_lt_of_le (by decide) (above02 c g i h).2⟩
  · exact ⟨(above2 c g i h).1, lt_of_lt_of_le (by decide) (above2 c g i h).2⟩

/-- The buffers outside the calls: all six arrays. -/
def bufs : Finset (DevRef τ sig) := Pipeline.ucRefs τ sig

theorem own0 : Pipeline.OwnSemFacts (pcfgs (F := F) 0).spec osem0 := (by decide : Pipeline.OwnSemFacts cfg0.spec osem0)

set_option backward.isDefEq.respectTransparency.types false in
/-- The first talking call. -/
def reg0 : Pipeline.RegionSeg (pcfgs (F := F)) adm (pdats m) 0 defs₀ 𝒱₀ (L 9) lv 0 :=
  Pipeline.RegionSeg.ofTalk (pcfgs (F := F)) adm (pdats m) 0 defs₀ 𝒱₀ (L 9) lv 0 osem0 own0
    hs0 bufs (by decide) (kitP 0) rfl (fun c => (body0 m c).loose)
    due2 due0 (fun _ => rfl) (fun _ => rfl) (fun _ => rfl) (fun _ w => w.elim0)
    (W0 m) (W1 m) (fun c b hb => Function.update_of_ne (fun e => (Finset.mem_sdiff.mp hb).2 (by rw [e]; decide)) _ _)
    (start0 m) (kept0 m) (enter0 m) (kept0 m) (open0 m) (hin0 m) (hout0 m)
    (fun c => by iintro H; imodintro; iexact H)
    (fun _ => 0)
    ⟨fun _ w => w.elim0, fun _ w => w.elim0, fun c t g i h => cut0 m c t g i h⟩
    (start2 m)
    (fun _ w => w.elim0) (fun _ w => w.elim0)

end Cert.Talk

end
-- ==== Proof.Gemm.lean ====
/-
  Call 1 (the product): the body's obligation at every point.
-/
module

public import proofs.«01_k».proof.Proof.Data

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

open Idealize.ShloMosaic.Pipeline (Dat BodyObligation)

variable (m : (ℓ : Loc nD τ sig) → Buf (Elt F) ℓ)

/-- The first point, and the last, as the body tells them. -/
theorem first1_iff : ∀ t : Fin cfg1.N, first1 (grid1.coords t) = 1#1 ↔ t.val = 0 := (by decide +kernel : ∀ t : Fin grid1.N, first1 (grid1.coords t) = 1#1 ↔ t.val = 0)
theorem last1_iff : ∀ t : Fin cfg1.N, k1_cond2 (grid1.coords t) = 1#1 ↔ t.val = 31 := (by decide +kernel : ∀ t : Fin grid1.N, k1_cond2 (grid1.coords t) = 1#1 ↔ t.val = 31)
theorem idle1_3 (t : Fin cfg1.N) (h : t.val ≠ 31) : cfg1.idle 3 (cfg1.grid.coords t) = true := by
  have := (last1_iff t).not.mpr h
  show (!(k1_cond2 (grid1.coords t) == 1#1)) = true
  rw [Bool.not_eq_true', beq_eq_false_iff_ne]; exact this
theorem idle1_3' (t : Fin cfg1.N) (h : t.val = 31) : cfg1.idle 3 (cfg1.grid.coords t) = false := by
  have := (last1_iff t).mpr h
  show (!(k1_cond2 (grid1.coords t) == 1#1)) = false
  rw [this]; rfl

theorem after1_0 (c : Dev nD) (t : Fin cfg1.N) : (dat1 m c).after 0 t = xb m c t := by dsimp only [dat1]
theorem after1_1 (c : Dev nD) (t : Fin cfg1.N) : (dat1 m c).after 1 t = wb m c t := by dsimp only [dat1]
theorem after1_2 (c : Dev nD) (t : Fin cfg1.N) : (dat1 m c).after 2 t = k1_pay1 (xb m c t) (wb m c t) := by dsimp only [dat1]
theorem after1_3 (c : Dev nD) (t : Fin cfg1.N) : (dat1 m c).after 3 t = k1_pay3 (rmax m c (t.val + 1)) := by dsimp only [dat1]
theorem A1_eq (c : Dev nD) (w : Fin cfg1.W) : (dat1 m c).A w = W1 m c (Proc.devRef .tc (Pipeline.arrRef spec1 w)) := by dsimp only [dat1]

/-- Each operand's buffer holds the point's block. -/
theorem before1_0 (c : Dev nD) (t : Fin cfg1.N) (d) : (dat1 m c).before 0 t d = xb m c t :=
  ((dat1 m c).before_in_eq_fetched 0 rfl (fun _ => rfl) (fun _ _ _ => rfl) (fun t => by rw [after1_0]; unfold Dat.blockOf xb; rw [A1_eq]) t d).trans (by unfold Dat.fetched Dat.blockOf xb; rw [A1_eq]; try rfl)
theorem before1_1 (c : Dev nD) (t : Fin cfg1.N) (d) : (dat1 m c).before 1 t d = wb m c t :=
  ((dat1 m c).before_in_eq_fetched 1 rfl (fun _ => rfl) (fun _ _ _ => rfl) (fun t => by rw [after1_1]; unfold Dat.blockOf wb; rw [A1_eq]) t d).trans (by unfold Dat.fetched Dat.blockOf wb; rw [A1_eq]; try rfl)

theorem defs₀_row1 (t : Fin cfg1.N) : defs₀ (F := F) .tc cfg1.body (cfg1.bodyArgs t (cfg1.slots t)) = bodyAt1 t := by
  unfold defs₀; rw [Defs.onTc_tc]

theorem rmax_succ (c : Dev nD) (t : Fin cfg1.N) : rmax m c (t.val + 1) = k1_pay2 (xb m c t) (wb m c t) (rmax m c t.val) := by
  show (if h : t.val < cfg1.N then _ else _) = _
  rw [dif_pos t.isLt]

/-- The running maximum that a point starts from. -/
theorem seed_eq (c : Dev nD) (t : Fin cfg1.N) (r : S1.Idx → Elt F .f32) (h : t.val = 0 ∨ r = fun _ => rmax m c t.val) : seed1 (grid1.coords t) (r o1) = rmax m c t.val := by
  unfold seed1
  by_cases h0 : t.val = 0
  · rw [if_pos ((first1_iff t).mpr h0), h0]; rfl
  · rw [if_neg ((first1_iff t).not.mpr h0), h.resolve_left h0]

/-- What a point starts with and ends with, window 3 apart. -/
def gPre (c : Dev nD) (t : Fin cfg1.N) : sProp 𝕄 := iprop(inv1 m c t.val ∗ (dat1 m c).owesAt 0 t.castSucc
  ∗ (∃ d, owns (c : Thread nD τ) (st1_0 t) fullShare ((dat1 m c).before 0 t d)) ∗ (∃ d, owns (c : Thread nD τ) (st1_1 t) fullShare ((dat1 m c).before 1 t d))
  ∗ (∃ d, owns (c : Thread nD τ) (st1_2 t) fullShare ((dat1 m c).before 2 t d)) ∗ (∃ d, owns (c : Thread nD τ) (st1_3 t) fullShare ((dat1 m c).before 3 t d)))
def gPost (c : Dev nD) (t : Fin cfg1.N) : sProp 𝕄 := iprop(inv1 m c (t.val + 1) ∗ (dat1 m c).owesAt 0 t.castSucc
  ∗ owns (c : Thread nD τ) (st1_0 t) fullShare ((dat1 m c).after 0 t) ∗ owns (c : Thread nD τ) (st1_1 t) fullShare ((dat1 m c).after 1 t)
  ∗ owns (c : Thread nD τ) (st1_2 t) fullShare ((dat1 m c).after 2 t) ∗ (dat1 m c).leavesExact 3 t)

theorem gemm_point (c : Dev nD) (t : Fin cfg1.N) :
    gPre m c t ⊢ wp frame (wpE (defs₀ (F := F)) Variants.none c none) Set.univ (bodyAt1 t) (fun _ => gPost m c t) := by
  unfold gPre gPost bodyAt1 inv1
  simp only [before1_0, before1_1]
  rw [after1_0, after1_1, after1_2]
  iintro ⟨⟨⟨%r, %hr, HR⟩, Hrest, Hp⟩, Ho, ⟨%d0, H0⟩, ⟨%d1, H1⟩, ⟨%d2, H2⟩, H3⟩
  have hs := seed_eq m c t r hr
  by_cases hl : t.val = 31
  · have h1 : ¬ first1 (grid1.coords t) = 1#1 := (first1_iff t).not.mpr (by omega)
    have h2 := (last1_iff t).mpr hl
    rw [show (dat1 m c).leavesExact 3 t = owns (c : Thread nD τ) (st1_3 t) fullShare ((dat1 m c).after 3 t) by unfold Dat.leavesExact; rw [idle1_3' t hl], after1_3]
    icases H3 with ⟨%d3, H3⟩
    iapply (gemmLast c (grid1.coords t) _ _ _ _ _ _ _ _ (xb m c t) (wb m c t) r _ h1 h2)
    isplitl [H0]; · iexact H0
    isplitl [H1]; · iexact H1
    isplitl [H2]; · iexists _; iexact H2
    isplitl [H3]; · iexists _; iexact H3
    isplitl [HR]; · iexact HR
    rw [hs, ← rmax_succ]
    iintro ⟨H0, H1, H2, H3, HR⟩
    isplitl [HR Hrest Hp]
    · isplitl [HR]
      · iexists _; isplitr; · ipureintro; exact Or.inr rfl
        iexact HR
      isplitl [Hrest] <;> iassumption
    isplitl [Ho]; · iexact Ho
    isplitl [H0]; · iexact H0
    isplitl [H1]; · iexact H1
    isplitl [H2]; · iexact H2
    iexact H3
  · have h2 := (last1_iff t).not.mpr hl
    have hN : t.val < 32 := lt_of_lt_of_eq t.isLt N_1
    rw [(dat1 m c).leavesExact_idle 3 t (idle1_3 t hl) (by rw [Bool.eq_false_iff]; exact (flush1_3 t).not.mpr (by omega))]
    by_cases h0 : t.val = 0
    · iapply (gemmFirst c (grid1.coords t) _ _ _ _ _ _ (st1_3 t) (hstage1_3 ((cfg1.slots t 3).cast nbuf1_3)) (xb m c t) (wb m c t) r _ ((first1_iff t).mpr h0) h2)
      isplitl [H0]; · iexact H0
      isplitl [H1]; · iexact H1
      isplitl [H2]; · iexists _; iexact H2
      isplitl [HR]; · iexact HR
      rw [hs, ← rmax_succ]
      iintro ⟨H0, H1, H2, HR⟩
      isplitl [HR Hrest Hp]
      · isplitl [HR]
        · iexists _; isplitr; · ipureintro; exact Or.inr rfl
          iexact HR
        isplitl [Hrest] <;> iassumption
      isplitl [Ho]; · iexact Ho
      isplitl [H0]; · iexact H0
      isplitl [H1]; · iexact H1
      isplitl [H2]; · iexact H2
      iexact H3
    · iapply (gemmMid c (grid1.coords t) _ _ _ _ _ _ (st1_3 t) (hstage1_3 ((cfg1.slots t 3).cast nbuf1_3)) (xb m c t) (wb m c t) r _ ((first1_iff t).not.mpr h0) h2)
      isplitl [H0]; · iexact H0
      isplitl [H1]; · iexact H1
      isplitl [H2]; · iexists _; iexact H2
      isplitl [HR]; · iexact HR
      rw [hs, ← rmax_succ]
      iintro ⟨H0, H1, H2, HR⟩
      isplitl [HR Hrest Hp]
      · isplitl [HR]
        · iexists _; isplitr; · ipureintro; exact Or.inr rfl
          iexact HR
        isplitl [Hrest] <;> iassumption
      isplitl [Ho]; · iexact Ho
      isplitl [H0]; · iexact H0
      isplitl [H1]; · iexact H1
      isplitl [H2]; · iexact H2
      iexact H3

/-- The product's body obligation. -/
theorem body1 (c : Dev nD) : BodyObligation (dat1 (F := F) m c) (defs₀ (F := F)) 𝒱₀ 0 Set.univ := fun t => by
  rw [bigSep_W1, bigSep_W1, defs₀_row1]
  exact triple_restated (gemm_point m c t) rfl .rfl fun _ => .rfl

end Cert.Talk

end
-- ==== Proof.GemmRegion.lean ====
/-
  The product as a region, which the talking calls' ghost state passes by.
-/
module

public import proofs.«01_k».proof.Proof.GatherRegion
public import proofs.«01_k».proof.Proof.Gemm

@[expose] public section

noncomputable section

namespace Cert.Talk

open Cert.KernelIdeal Cert.KernelIdeal.Gen
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (c : Dev nD)

theorem hin1 : iprop(Pipeline.scopedRest spec1 c ∗ (∃ r, prngReg c r) ∗ StableHlo.held (c.tc : Thread nD τ) ∅ (W1 m c) ∗ emp) ⊢ (dat1 (F := F) m c).Φ 0 := by
  show _ ⊢ inv1 m c 0
  rw [scopedRest1_eq]
  unfold inv1 rest1 anyBuf anyPrng
  iintro ⟨⟨A0, A1, A2, A3, A4, A5, A6, ⟨%f, H⟩, A7⟩, Hp, -⟩
  isplitl [H]
  · iexists (f : S1.Idx → Elt F .f32)
    isplitr; · ipureintro; exact .inl rfl
    iapply (Entails.of_eq (owns_whole (c : Thread nD τ) cc1_scratch0 fullShare f).symm); iexact H
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  iexact Hp

theorem hout1 : (dat1 (F := F) m c).Φ (Fin.last cfg1.N)
    ⊢ iprop(Pipeline.scopedRest spec1 c ∗ (∃ r, prngReg c r) ∗ StableHlo.held (c.tc : Thread nD τ) ∅ (W2 m c) ∗ Pipeline.ownSems0 (fun k : PEmpty => k.elim) c ∗ emp) := by
  show inv1 m c cfg1.N ⊢ _
  rw [scopedRest1_eq, Pipeline.ownSems0_none, show (StableHlo.held (c.tc : Thread nD τ) ∅ (W2 m c) : sProp 𝕄) = iprop(emp) from BI.bigSep_empty]
  unfold inv1 rest1 anyBuf anyPrng
  iintro ⟨⟨%r, -, H⟩, ⟨A0, A1, A2, A3, A4, A5, A6, A7⟩, Hp⟩
  isplitr [Hp]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [H]
    · iexists r; iapply (Entails.of_eq (owns_whole (c : Thread nD τ) cc1_scratch0 fullShare r)); iexact H
    iexact A7
  isplitl [Hp]; · iexact Hp
  isplitr; · iempintro
  isplitr; · iempintro
  iempintro

theorem W2_g : W2 m c (Proc.devRef .tc main_v2_1) = (dat1 m c).arrAt 3 cfg1.N := Function.update_self _ _ _
theorem W2_y : W2 m c (Proc.devRef .tc main_v2_0) = (dat1 m c).arrAt 2 cfg1.N :=
  (Function.update_of_ne (by decide : (Proc.devRef .tc main_v2_0 : DevRef τ sig) ≠ Proc.devRef .tc main_v2_1) _ _).trans (Function.update_self _ _ _)
theorem W2_of_ne (b : Ref sig .tc) (h0 : (Proc.devRef .tc b : DevRef τ sig) ≠ Proc.devRef .tc main_v2_0) (h1 : (Proc.devRef .tc b : DevRef τ sig) ≠ Proc.devRef .tc main_v2_1) :
    W2 m c (Proc.devRef .tc b) = W1 m c (Proc.devRef .tc b) := (Function.update_of_ne h1 _ _).trans (Function.update_of_ne h0 _ _)

/-- The product's arrays before it and after it. -/
theorem arr1_zero (w : Fin cfg1.W) : (dat1 (F := F) m c).arrAt w 0 = W1 m c (Proc.devRef .tc (Pipeline.arrRef spec1 w)) := rfl
theorem arr1_last (w : Fin cfg1.W) : (dat1 (F := F) m c).arrAt w cfg1.N = W2 m c (Proc.devRef .tc (Pipeline.arrRef spec1 w)) := by
  match w with
  | ⟨0, _⟩ => exact ((dat1 m c).arrAt_in 0 rfl _).trans (W2_of_ne m c main_v1 (by decide) (by decide)).symm
  | ⟨1, _⟩ => exact ((dat1 m c).arrAt_in 1 rfl _).trans (W2_of_ne m c main_arg1 (by decide) (by decide)).symm
  | ⟨2, _⟩ => exact (W2_y m c).symm
  | ⟨3, _⟩ => exact (W2_g m c).symm

theorem W2_rest (b : DevRef τ sig) (hb : b ∈ sr1) : W2 m c b = W1 m c b :=
  (Function.update_of_ne (fun e => absurd (e ▸ hb) (by decide)) _ _).trans (Function.update_of_ne (fun e => absurd (e ▸ hb) (by decide)) _ _)

set_option backward.isDefEq.respectTransparency.types false in
/-- The product. -/
def reg1 : Pipeline.RegionSeg (pcfgs (F := F)) adm (pdats m) 0 defs₀ 𝒱₀ (L 9) lv 1 :=
  Pipeline.RegionSeg.ofTalk (pcfgs (F := F)) adm (pdats m) 0 defs₀ 𝒱₀ (L 9) lv 1 (fun k : PEmpty => k.elim) (Pipeline.OwnSemFacts.none _)
    ∅ sr1 (Finset.empty_subset _) (kitP 1) rfl (fun c => (body1 m c).loose)
    due2 (fun _ => 0) (fun c => (add_zero _).symm) (fun _ => rfl) (fun _ => rfl) (fun c w => (dat1 m c).share_full (fun _ => rfl) w)
    (W1 m) (W2 m) (fun c b hb => W2_rest m c b (Finset.mem_sdiff.mp hb).1)
    (fun _ => iprop(emp)) (fun _ => iprop(emp)) (fun _ => iprop(emp)) (fun _ => iprop(emp)) (fun c => by iintro -; imodintro; iempintro) (hin1 m) (hout1 m)
    (fun c => by iintro H; imodintro; iexact H)
    (fun _ => 0)
    ⟨fun c w s => SiteBlocks.mem_L c _ (by decide), fun c w s => le_refl _, fun c t g i h => ⟨(above2 c g i h).1, lt_of_lt_of_le (by decide) (above2 c g i h).2⟩⟩
    (fun c => iprop(start2 m c ∗ kept0 m c))
    (arr1_zero m) (arr1_last m)

end Cert.Talk

end
-- ==== Proof.EpiRegion.lean ====
/-
  The last call as a region: the obligation at every point, what enters the call and what comes out of it.
-/
module

public import proofs.«01_k».proof.Proof.Epi
public import proofs.«01_k».proof.Proof.GemmRegion

@[expose] public section

noncomputable section

namespace Cert.Talk

open Cert.KernelIdeal Cert.KernelIdeal.Gen
open Idealize.ShloMosaic.Tactic
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (c : Dev nD)

/-! ## The obligation at every point -/

theorem cond2_iff : ∀ t : Fin cfg2.N, k2_cond1 (grid2.coords t) = 1#1 ↔ t.val = 0 := (by decide +kernel : ∀ t : Fin grid2.N, k2_cond1 (grid2.coords t) = 1#1 ↔ t.val = 0)

theorem after2_0 (t : Fin cfg2.N) : (dat2 m c).after 0 t = mb m c t := by dsimp only [dat2]
theorem after2_1 (t : Fin cfg2.N) : (dat2 m c).after 1 t = yb m c t := by dsimp only [dat2]
theorem after2_2 (t : Fin cfg2.N) : (dat2 m c).after 2 t = k2_pay1 (scl m c) (scli m c) (yb m c t) := by dsimp only [dat2]
theorem A2_eq (w : Fin cfg2.W) : (dat2 m c).A w = W2 m c (Proc.devRef .tc (Pipeline.arrRef spec2 w)) := by dsimp only [dat2]

theorem before2_0 (t : Fin cfg2.N) (d) : (dat2 m c).before 0 t d = mb m c t :=
  ((dat2 m c).before_in_eq_fetched 0 rfl (fun _ => rfl) (fun _ _ _ => rfl) (fun t => by rw [after2_0]; unfold Pipeline.Dat.blockOf mb; rw [A2_eq]) t d).trans (by unfold Pipeline.Dat.fetched Pipeline.Dat.blockOf mb; rw [A2_eq]; try rfl)
theorem before2_1 (t : Fin cfg2.N) (d) : (dat2 m c).before 1 t d = yb m c t :=
  ((dat2 m c).before_in_eq_fetched 1 rfl (fun _ => rfl) (fun _ _ _ => rfl) (fun t => by rw [after2_1]; unfold Pipeline.Dat.blockOf yb; rw [A2_eq]) t d).trans (by unfold Pipeline.Dat.fetched Pipeline.Dat.blockOf yb; rw [A2_eq]; try rfl)

theorem defs₀_row2 (t : Fin cfg2.N) : defs₀ (F := F) .tc cfg2.body (cfg2.bodyArgs t (cfg2.slots t)) = bodyAt2 t := by
  unfold defs₀; rw [Defs.onTc_tc]

/-- The call's invariant before its first point, and later. -/
def before2 : sProp 𝕄 := iprop(rest2 c ∗ anyPrng c ∗ anyBuf c cc2_scratch0 ∗ anyBuf c cc2_scratch1 ∗ anyBuf c cc2_scratch5 ∗ enter2 m c)
def later2Φ : sProp 𝕄 := iprop(rest2 c ∗ anyPrng c ∗ anyBuf c cc2_scratch0 ∗ anyBuf c cc2_scratch1 ∗ owns (c : Thread nD τ) (Memref.whole cc2_scratch5) fullShare (sclV m c)
      ∗ eZeros c ∗ semVal (dmaAt c (recvSem c)) 0 ∗ kept2 m c)
theorem Φ2_first (t : Fin (cfg2.N + 1)) (h : t.val = 0) : (dat2 m c).Φ t = before2 m c := if_pos h
theorem Φ2_later (t : Fin (cfg2.N + 1)) (h : t.val ≠ 0) : (dat2 m c).Φ t = later2Φ m c := if_neg h
theorem owed_first (t : Fin (cfg2.N + 1)) (h : t.val = 0) : (dat2 m c).owed t = due2 c := if_pos h
theorem owed_later (t : Fin (cfg2.N + 1)) (h : t.val ≠ 0) : (dat2 m c).owed t = 0 := if_neg h

/-- What a point starts with and ends with. -/
def ePre (t : Fin cfg2.N) : sProp 𝕄 := iprop((dat2 m c).Φ t.castSucc ∗ (dat2 m c).owesAt 0 t.castSucc
  ∗ (∃ d, owns (c : Thread nD τ) (st2_0 t) fullShare ((dat2 m c).before 0 t d)) ∗ (∃ d, owns (c : Thread nD τ) (st2_1 t) fullShare ((dat2 m c).before 1 t d))
  ∗ (∃ d, owns (c : Thread nD τ) (st2_2 t) fullShare ((dat2 m c).before 2 t d)))
def ePost (t : Fin cfg2.N) : sProp 𝕄 := iprop((dat2 m c).Φ t.succ ∗ (dat2 m c).owesAt 0 t.succ
  ∗ owns (c : Thread nD τ) (st2_0 t) fullShare ((dat2 m c).after 0 t) ∗ owns (c : Thread nD τ) (st2_1 t) fullShare ((dat2 m c).after 1 t)
  ∗ owns (c : Thread nD τ) (st2_2 t) fullShare ((dat2 m c).after 2 t))

theorem epi_point (t : Fin cfg2.N) :
    ePre m c t ⊢ wp frame (wpE (defs₀ (F := F)) 𝒱₀ c none) Set.univ (bodyAt2 t) (fun _ => ePost m c t) := by
  unfold ePre ePost bodyAt2
  simp only [before2_0, before2_1]
  rw [after2_0, after2_1, after2_2]
  have hs : (t.succ).val ≠ 0 := Nat.succ_ne_zero _
  rw [Φ2_later m c t.succ hs]
  by_cases h0 : t.val = 0
  · obtain rfl : t = t2_0 := Fin.ext h0
    rw [Φ2_first m c _ h0]
    unfold before2 later2Φ enter2 kept2 anyBuf
    iintro ⟨⟨Hrest, Hp, HS, HB, ⟨%f5, H5⟩, ⟨%κ, #HI, #Hlev, Hat, Hnb, HP, HR, HT, HC, HZ⟩⟩, HO, ⟨%d0, H0⟩, ⟨%d1, H1⟩, ⟨%d2, H2⟩⟩
    ihave HO' := (owesAt_elim (dat2 m c) 0 (Fin.castSucc t2_0) (due2 c) (owed_first m c _ h0)) $$ HO
    iapply (epiFirst m κ c (grid2.coords t2_0) _ _ _ _ _ _ (yb m c t2_0) _ ((cond2_iff t2_0).mpr h0))
    isplitr; · iexact HI
    isplitr; · iexact Hlev
    isplitl [HO']; · rw [owed2_zero]; iapply (Entails.of_eq (show (iprop(∃ W, owes (c : Thread nD τ) (due2 c) W) : sProp 𝕄) = ow c (due2 c) from rfl)); iexact HO'
    isplitl [Hat]; · iexact Hat
    isplitl [Hnb]; · iexact Hnb
    isplitl [HP]; · iexact HP
    isplitl [HR]; · iexact HR
    isplitl [HT]; · iexact HT
    isplitl [HC]; · iexact HC
    isplitl [H0]; · iexact H0
    isplitl [H1]; · iexact H1
    isplitl [H2]; · iexists _; iexact H2
    isplitl [HS]; · iexact HS
    isplitl [HB]; · iexact HB
    isplitl [H5]; · iexists f5; iapply (Entails.of_eq (owns_whole (c : Thread nD τ) cc2_scratch5 fullShare f5).symm); iexact H5
    iintro ⟨HO, Hat, HZs, H0, H1, H2, HS, HB, H5⟩
    ihave HO := (Entails.of_eq (show ow c 0 = (iprop(∃ W, owes (c : Thread nD τ) 0 W) : sProp 𝕄) from rfl)) $$ HO
    icases HO with ⟨%W, HO⟩
    isplitl [Hrest Hp Hat HZs HZ HS HB H5]
    · isplitl [Hrest]; · iexact Hrest
      isplitl [Hp]; · iexact Hp
      isplitl [HS]; · iexact HS
      isplitl [HB]; · iexact HB
      isplitl [H5]; · iexact H5
      isplitl [HZs]; · iexact HZs
      isplitl [HZ]; · iexact HZ
      unfold Fam.barPos
      isplitr; · iexists κ; iexact HI
      isplitl [Hat]; · iexact Hat
      rw [BI.bigSep_empty]; iempintro
    isplitl [HO]; · iapply (owesAt_intro (dat2 m c) 0 (Fin.succ t2_0) 0 (owed_later m c _ hs) rfl W); iexact HO
    isplitl [H0]; · iexact H0
    isplitl [H1]; · iexact H1
    iexact H2
  · rw [Φ2_later m c t.castSucc h0]
    unfold later2Φ
    iintro ⟨⟨Hrest, Hp, HS, HB, H5, HZs, HZ, HK⟩, HO, ⟨%d0, H0⟩, ⟨%d1, H1⟩, ⟨%d2, H2⟩⟩
    ihave HO' := (owesAt_elim (dat2 m c) 0 (Fin.castSucc t) 0 (owed_later m c _ h0)) $$ HO
    icases HO' with ⟨%W, HO⟩
    iapply (epiOther m c (grid2.coords t) _ _ _ _ _ _ (yb m c t) _ ((cond2_iff t).not.mpr h0))
    isplitl [H1]; · iexact H1
    isplitl [H2]; · iexists _; iexact H2
    isplitl [H5]; · iexact H5
    iintro ⟨H1, H2, H5⟩
    isplitl [Hrest Hp HS HB H5 HZs HZ HK]
    · isplitl [Hrest]; · iexact Hrest
      isplitl [Hp]; · iexact Hp
      isplitl [HS]; · iexact HS
      isplitl [HB]; · iexact HB
      isplitl [H5]; · iexact H5
      isplitl [HZs]; · iexact HZs
      isplitl [HZ]; · iexact HZ
      iexact HK
    isplitl [HO]; · iapply (owesAt_intro (dat2 m c) 0 (Fin.succ t) 0 (owed_later m c _ hs) rfl W); iexact HO
    isplitl [H0]; · iexact H0
    isplitl [H1]; · iexact H1
    iexact H2

/-- The last call's body obligation. -/
theorem body2 : Pipeline.BodyObligation (dat2 (F := F) m c) (defs₀ (F := F)) 𝒱₀ 0 Set.univ := fun t => by
  rw [bigSep_W2, bigSep_W2, defs₀_row2]
  exact triple_restated (epi_point m c t) rfl .rfl fun _ => .rfl

/-! ## The region -/

theorem hin2 : iprop(Pipeline.scopedRest spec2 c ∗ (∃ r, prngReg c r) ∗ StableHlo.held (c.tc : Thread nD τ) ∅ (W2 m c) ∗ enter2 m c) ⊢ (dat2 (F := F) m c).Φ 0 := by
  rw [Φ2_first m c 0 rfl, scopedRest2_eq]
  unfold before2 rest2 anyBuf anyPrng
  iintro ⟨⟨A0, A1, A2, A3, A4, A5, A6, S0, S1, A7, S5⟩, Hp, -, HE⟩
  isplitl [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  isplitl [Hp]; · iexact Hp
  isplitl [S0]; · iexact S0
  isplitl [S1]; · iexact S1
  isplitl [S5]; · iexact S5
  iexact HE

theorem hout2 : (dat2 (F := F) m c).Φ (Fin.last cfg2.N)
    ⊢ iprop(Pipeline.scopedRest spec2 c ∗ (∃ r, prngReg c r) ∗ StableHlo.held (c.tc : Thread nD τ) ∅ (W3 m c) ∗ Pipeline.ownSems0 osem2 c ∗ kept2 m c) := by
  rw [Φ2_later m c _ (by rw [show (Fin.last cfg2.N).val = 8 from N_2]; decide), scopedRest2_eq, ownSems2_zeros, show (StableHlo.held (c.tc : Thread nD τ) ∅ (W3 m c) : sProp 𝕄) = iprop(emp) from BI.bigSep_empty]
  unfold later2Φ rest2 anyBuf anyPrng
  iintro ⟨⟨A0, A1, A2, A3, A4, A5, A6, A7⟩, Hp, S0, S1, H5, HZs, HZ, HK⟩
  isplitl [A0 A1 A2 A3 A4 A5 A6 A7 S0 S1 H5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [S0]; · iexact S0
    isplitl [S1]; · iexact S1
    isplitl [A7]; · iexact A7
    iexists (sclV m c); iapply (Entails.of_eq (owns_whole (c : Thread nD τ) cc2_scratch5 fullShare (sclV m c))); iexact H5
  isplitl [Hp]; · iexact Hp
  isplitr; · iempintro
  isplitl [HZs HZ]
  · iapply (dorm2_join c fun sm => semVal ((c.tc : Thread nD τ), sm) 0)
    isplitl [HZs]
    · iapply (Entails.of_eq (show eZeros c = (bigSepL (cells2 c) fun sm => semVal ((c.tc : Thread nD τ), sm) 0 : sProp 𝕄) from rfl)); iexact HZs
    iexact HZ
  iexact HK

theorem W3_o : W3 m c (Proc.devRef .tc main_v3) = (dat2 m c).arrAt 2 cfg2.N := Function.update_self _ _ _
theorem W3_of_ne (b : Ref sig .tc) (h : (Proc.devRef .tc b : DevRef τ sig) ≠ Proc.devRef .tc main_v3) : W3 m c (Proc.devRef .tc b) = W2 m c (Proc.devRef .tc b) := Function.update_of_ne h _ _

theorem arr2_zero (w : Fin cfg2.W) : (dat2 (F := F) m c).arrAt w 0 = W2 m c (Proc.devRef .tc (Pipeline.arrRef spec2 w)) := rfl
theorem arr2_last (w : Fin cfg2.W) : (dat2 (F := F) m c).arrAt w cfg2.N = W3 m c (Proc.devRef .tc (Pipeline.arrRef spec2 w)) := by
  match w with
  | ⟨0, _⟩ => exact ((dat2 m c).arrAt_in 0 rfl _).trans (W3_of_ne m c main_v2_1 (by decide)).symm
  | ⟨1, _⟩ => exact ((dat2 m c).arrAt_in 1 rfl _).trans (W3_of_ne m c main_v2_0 (by decide)).symm
  | ⟨2, _⟩ => exact (W3_o m c).symm

theorem W3_rest (b : DevRef τ sig) (hb : b ∈ sr2) : W3 m c b = W2 m c b :=
  Function.update_of_ne (fun e => absurd (e ▸ hb) (by decide)) _ _

theorem cut2 (t : Fin (cfg2.N + 1)) (g : GSem nD τ sig) (i : ℕ) (h : 0 < (dat2 (F := F) m c).owed t g i) : i ∈ L 9 g ∧ (0 : ℕ) < lv g i := by
  by_cases h0 : t.val = 0
  · rw [owed_first m c t h0] at h
    exact ⟨(above2 c g i h).1, lt_of_lt_of_le (by decide) (above2 c g i h).2⟩
  · rw [owed_later m c t h0] at h
    exact absurd h (lt_irrefl _)

theorem own2 : Pipeline.OwnSemFacts (pcfgs (F := F) 2).spec osem2 := (by decide : Pipeline.OwnSemFacts cfg2.spec osem2)

set_option backward.isDefEq.respectTransparency.types false in
/-- The last call. -/
def reg2 : Pipeline.RegionSeg (pcfgs (F := F)) adm (pdats m) 0 defs₀ 𝒱₀ (L 9) lv 2 :=
  Pipeline.RegionSeg.ofTalk (pcfgs (F := F)) adm (pdats m) 0 defs₀ 𝒱₀ (L 9) lv 2 osem2 own2
    ∅ sr2 (Finset.empty_subset _) (kitP 2) rfl (fun c => (body2 m c).loose)
    (fun _ => 0) due2 (fun c => (zero_add _).symm) (fun _ => rfl) (fun _ => rfl) (fun c w => (dat2 m c).share_full (fun _ => rfl) w)
    (W2 m) (W3 m) (fun c b hb => W3_rest m c b (Finset.mem_sdiff.mp hb).1)
    (start2 m) (kept2 m) (enter2 m) (kept2 m) (open2 m) (hin2 m) (hout2 m)
    (fun c => by iintro H; imodintro; iexact H)
    (fun _ => 0)
    ⟨fun c w s => SiteBlocks.mem_L c _ (by decide), fun c w s => le_refl _, fun c t g i h => cut2 m c t g i h⟩
    (kept0 m)
    (arr2_zero m) (arr2_last m)

end Cert.Talk

end
-- ==== Proof.Run.lean ====
/-
  The run: the three calls one after the other, from the launch to the final state.
-/
module

public import proofs.«01_k».proof.Proof.EpiRegion
public import Idealize.ShloMosaic.Lib.Quiescent

@[expose] public section

noncomputable section

namespace Cert.Talk

open Cert.KernelIdeal Cert.KernelIdeal.Gen
open Idealize.ShloMosaic.Tactic
open Idealize.ShloMosaic Idealize.ShloMosaic.TcCoe Idealize.ShloMosaic.TalkSites
open Idealize.ShloMosaic.SiteBlocks (L lv Above above_zero)
open Idealize.ShloMosaic.Rounds (URounds Schedule cellInv atPos reached dutyTok openTok)
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig ℕ (Elt F) ℕ UU ℕ

variable (m : (ℓ : Loc nD τ sig) → Buf (Elt F) ℓ) (ρ : Dev nD → PrngReg) (c : Dev nD)

/-! ## The arrays, cut at a call's boundary -/

/-- The arrays that the product, and the last call, address through their windows. -/
def ar1 : Finset (DevRef τ sig) := {Proc.devRef .tc main_v1, Proc.devRef .tc main_arg1, Proc.devRef .tc main_v2_0, Proc.devRef .tc main_v2_1}
def ar2 : Finset (DevRef τ sig) := {Proc.devRef .tc main_v2_1, Proc.devRef .tc main_v2_0, Proc.devRef .tc main_v3}

theorem arr0 : Pipeline.arrRefs (τ := τ) spec0 = ∅ := by
  unfold Pipeline.arrRefs
  rw [Finset.map_eq_empty, Finset.image_eq_empty]
  rfl
theorem arr1 : Pipeline.arrRefs (τ := τ) spec1 = ar1 := by decide
theorem arr2 : Pipeline.arrRefs (τ := τ) spec2 = ar2 := by decide
theorem bufs1 : bufs = ar1 ∪ sr1 := by decide
theorem bufs2 : bufs = ar2 ∪ sr2 := by decide

theorem heldA0 (W : Valuation τ sig (Elt F)) : (StableHlo.held (c.tc : Thread nD τ) (Pipeline.arrRefs (τ := τ) spec0) W : sProp 𝕄) = iprop(emp) := by
  rw [arr0]; exact BI.bigSep_empty
theorem held1 (W : Valuation τ sig (Elt F)) : (StableHlo.held (c.tc : Thread nD τ) bufs W : sProp 𝕄)
    = iprop(StableHlo.held (c.tc : Thread nD τ) (Pipeline.arrRefs (τ := τ) spec1) W ∗ StableHlo.held (c.tc : Thread nD τ) sr1 W) := by
  rw [arr1, bufs1]; exact BI.bigSep_union (by decide)
theorem held2 (W : Valuation τ sig (Elt F)) : (StableHlo.held (c.tc : Thread nD τ) bufs W : sProp 𝕄)
    = iprop(StableHlo.held (c.tc : Thread nD τ) (Pipeline.arrRefs (τ := τ) spec2) W ∗ StableHlo.held (c.tc : Thread nD τ) sr2 W) := by
  rw [arr2, bufs2]; exact BI.bigSep_union (by decide)

/-! ## Between the calls -/

/-- A core's holdings at launch, before the product, before the last call, and at the end (what it owes apart). -/
def T0 : sProp 𝕄 := iprop(StableHlo.held (c.tc : Thread nD τ) bufs (W0 m c) ∗ (∃ r, prngReg c r) ∗ start0 m c ∗ start2 m c ∗ ∃ W, owes (c.tc : Thread nD τ) (due2 c + due0 c) W)
def Tn : sProp 𝕄 := iprop(StableHlo.held (c.tc : Thread nD τ) bufs (W3 m c) ∗ kept0 m c ∗ kept2 m c)

theorem chain0 : T0 m c ⊢ (reg0 m).pre c := by
  show _ ⊢ iprop(StableHlo.held (c.tc : Thread nD τ) (Pipeline.arrRefs (τ := τ) spec0) (W0 m c) ∗ (∃ r, prngReg c r)
    ∗ (StableHlo.held (c.tc : Thread nD τ) bufs (W0 m c) ∗ start2 m c) ∗ start0 m c ∗ ∃ Wd, owes (c.tc : Thread nD τ) (due2 c + due0 c) Wd)
  rw [heldA0]
  unfold T0
  iintro ⟨Hh, Hp, Hs0, Hs2, HO⟩
  isplitr; · iempintro
  isplitl [Hp]; · iexact Hp
  isplitl [Hh Hs2]
  · isplitl [Hh] <;> iassumption
  isplitl [Hs0] <;> iassumption

theorem chain1 : (reg0 m).post c ⊢ (reg1 m).pre c := by
  show iprop(StableHlo.held (c.tc : Thread nD τ) (Pipeline.arrRefs (τ := τ) spec0) (W1 m c) ∗ (∃ r, prngReg c r)
    ∗ (StableHlo.held (c.tc : Thread nD τ) bufs (W1 m c) ∗ start2 m c) ∗ kept0 m c ∗ ∃ Wd, owes (c.tc : Thread nD τ) (due2 c) Wd)
   ⊢ iprop(StableHlo.held (c.tc : Thread nD τ) (Pipeline.arrRefs (τ := τ) spec1) (W1 m c) ∗ (∃ r, prngReg c r)
    ∗ (StableHlo.held (c.tc : Thread nD τ) sr1 (W1 m c) ∗ start2 m c ∗ kept0 m c) ∗ emp ∗ ∃ Wd, owes (c.tc : Thread nD τ) (due2 c + 0) Wd)
  rw [held1, add_zero]
  iintro ⟨-, Hp, ⟨⟨Ha, Hr⟩, Hs⟩, Hk, HO⟩
  isplitl [Ha]; · iexact Ha
  isplitl [Hp]; · iexact Hp
  isplitl [Hr Hs Hk]
  · isplitl [Hr]; · iexact Hr
    isplitl [Hs] <;> iassumption
  isplitr; · iempintro
  iexact HO

theorem chain2 : (reg1 m).post c ⊢ (reg2 m).pre c := by
  show iprop(StableHlo.held (c.tc : Thread nD τ) (Pipeline.arrRefs (τ := τ) spec1) (W2 m c) ∗ (∃ r, prngReg c r)
    ∗ (StableHlo.held (c.tc : Thread nD τ) sr1 (W2 m c) ∗ start2 m c ∗ kept0 m c) ∗ emp ∗ ∃ Wd, owes (c.tc : Thread nD τ) (due2 c) Wd)
   ⊢ iprop(StableHlo.held (c.tc : Thread nD τ) (Pipeline.arrRefs (τ := τ) spec2) (W2 m c) ∗ (∃ r, prngReg c r)
    ∗ (StableHlo.held (c.tc : Thread nD τ) sr2 (W2 m c) ∗ kept0 m c) ∗ start2 m c ∗ ∃ Wd, owes (c.tc : Thread nD τ) (0 + due2 c) Wd)
  rw [zero_add]
  iintro ⟨Ha, Hp, ⟨Hr, Hs, Hk⟩, -, HO⟩
  ihave Hh := (Entails.of_eq (held1 c (W2 m c)).symm) $$ [Ha Hr]
  · isplitl [Ha] <;> iassumption
  ihave Hh' := (Entails.of_eq (held2 c (W2 m c))) $$ Hh
  icases Hh' with ⟨Ha, Hr⟩
  isplitl [Ha]; · iexact Ha
  isplitl [Hp]; · iexact Hp
  isplitl [Hr Hk]
  · isplitl [Hr] <;> iassumption
  isplitl [Hs] <;> iassumption

theorem chain3 : (reg2 m).post c ⊢ iprop(Tn m c ∗ ∃ W, owes (c.tc : Thread nD τ) (0 : CellTallies nD τ sig ℕ) W) := by
  show iprop(StableHlo.held (c.tc : Thread nD τ) (Pipeline.arrRefs (τ := τ) spec2) (W3 m c) ∗ (∃ r, prngReg c r)
    ∗ (StableHlo.held (c.tc : Thread nD τ) sr2 (W3 m c) ∗ kept0 m c) ∗ kept2 m c ∗ ∃ Wd, owes (c.tc : Thread nD τ) (0 : CellTallies nD τ sig ℕ) Wd) ⊢ _
  unfold Tn
  iintro ⟨Ha, -, ⟨Hr, Hk⟩, Hk2, HO⟩
  ihave Hh := (Entails.of_eq (held2 c (W3 m c)).symm) $$ [Ha Hr]
  · isplitl [Ha] <;> iassumption
  isplitr [HO]
  · isplitl [Hh]; · iexact Hh
    isplitl [Hk] <;> iassumption
  iexact HO

/-! ## The launch -/

/-- What a device owes at launch. -/
def O₀ (d : Dev nD) : CellTallies nD τ sig ℕ := 0 + due2 d + due0 d

/-- The talking calls' launch element, and the whole. -/
def uT : URnd × URnd := (Rounds.launchOf Fm0.S Fm0.Sd Fm0.T, Rounds.launchOf Fm2.S Fm2.Sd Fm2.T)
def u₀ : UU := (Rounds.initOf (Pipeline.cells (Pipeline.pin (pcfgs (F := F)) adm) cellOf_inj) (Pipeline.launchToks (Pipeline.pin (pcfgs (F := F)) adm) cellOf_inj), uT)

/-- A resource that is shared out over the devices later: all of it on device 0. -/
def on0 (X : sProp 𝕄) (c : Dev nD) : sProp 𝕄 := if c = 0 then X else iprop(emp)
theorem bigSep_on0 (X : sProp 𝕄) : bigSep Finset.univ (on0 X) = X := by
  rw [bigSep_univ_at _ (0 : Dev nD), bigSep_congr (s := Finset.univ.erase (0 : Dev nD)) (Ψ := fun _ => (BI.emp : sProp 𝕄))
      fun c hc => by unfold on0; rw [if_neg (Finset.ne_of_mem_erase hc)]; rfl, BI.bigSep_emp_const]
  unfold on0; rw [if_pos rfl]
  exact BI.equiv_iff.mp sep_emp
def G : Dev nD → sProp 𝕄 := on0 (BI.own (EC uT))

theorem unscopedSems_eq : (unscopedSems0 c : sProp 𝕄) = iprop(semVal ((c.tc : Thread nD τ), Fm0.bar) 0 ∗ semVal ((c.tc : Thread nD τ), Fm2.bar) 0) := by
  unfold unscopedSems0
  rw [show (Finset.univ.filter fun sm : SemLoc sig => ¬ sm.isScoped .tc) = {SemLoc.reg 0, SemLoc.reg 2} from by decide, BI.bigSep_insert (by decide), BI.bigSep_singleton]
  rfl

/-- Both talking calls funded from what is dealt at launch. -/
theorem funds : SiteBlocks.Funds (EC (F := F)) (fun c => iprop(semVal ((c.tc : Thread nD τ), Fm0.bar) 0 ∗ semVal ((c.tc : Thread nD τ), Fm2.bar) 0)) O₀ uT
    (fun c => iprop(Pipeline.launchCred due0 c ∗ Pipeline.launchCred due2 c ∗ Fm0.launched E0 (Rd0 m) nb0 c ∗ Fm2.launched E2 (Rd2 (amx m)) nb2 c)) Set.univ :=
  pass due0 (pass due2 (step0 EC (Fm0.funds E0 (Rd0 m) (fun g _ => id) nb0) (Fm2.funds E2 (Rd2 (amx m)) (fun g _ => id) nb2)))

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts (L 9) lv)
      ⊢ (|={Set.univ}=> bigSep Finset.univ (T0 m) : sProp 𝕄) := by
  have h1 (c : Dev nD) : iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)
      ⊢ (iprop((StableHlo.held (c.tc : Thread nD τ) bufs (W0 m c) ∗ (∃ r, prngReg c r) ∗ ∃ W, owes (c.tc : Thread nD τ) (due2 c + due0 c) W)
        ∗ ((semVal ((c.tc : Thread nD τ), Fm0.bar) 0 ∗ semVal ((c.tc : Thread nD τ), Fm2.bar) 0) ∗ Pipeline.launchCred O₀ c) ∗ G c) : sProp 𝕄) := by
    rw [show unscopedBufs c (fun b => m ((c.tc : Thread nD τ).loc b)) = StableHlo.held (c.tc : Thread nD τ) bufs (W0 m c) from Pipeline.unscopedBufs_held c (W0 m c),
      unscopedSems_eq, show O₀ c = due2 c + due0 c from by unfold O₀; rw [zero_add]]
    iintro ⟨Hh, Hus, HO, Hcr, Hp, HG⟩
    isplitl [Hh HO Hp]
    · isplitl [Hh]; · iexact Hh
      isplitl [Hp]; · iexists (ρ c); iexact Hp
      iexists ∅; iexact HO
    isplitl [Hus Hcr]
    · isplitl [Hus] <;> iassumption
    iexact HG
  have h2 (c : Dev nD) : iprop((StableHlo.held (c.tc : Thread nD τ) bufs (W0 m c) ∗ (∃ r, prngReg c r) ∗ ∃ W, owes (c.tc : Thread nD τ) (due2 c + due0 c) W)
        ∗ (Pipeline.launchCred due0 c ∗ Pipeline.launchCred due2 c ∗ Fm0.launched E0 (Rd0 m) nb0 c ∗ Fm2.launched E2 (Rd2 (amx m)) nb2 c))
      ⊢ (T0 m c : sProp 𝕄) := by
    unfold T0 start0 start2
    iintro ⟨⟨Hh, Hp, HO⟩, C0, C2, L0, L2⟩
    isplitl [Hh]; · iexact Hh
    isplitl [Hp]; · iexact Hp
    isplitl [C0 L0]
    · isplitl [L0] <;> iassumption
    isplitl [C2 L2]
    · isplitl [L2] <;> iassumption
    iexact HO
  iintro ⟨H, -⟩
  ihave H' := (show _ ⊢ iprop((bigSep Finset.univ fun c : Dev nD => iprop(StableHlo.held (c.tc : Thread nD τ) bufs (W0 m c) ∗ (∃ r, prngReg c r) ∗ ∃ W, owes (c.tc : Thread nD τ) (due2 c + due0 c) W))
      ∗ (bigSep Finset.univ fun c : Dev nD => iprop((semVal ((c.tc : Thread nD τ), Fm0.bar) 0 ∗ semVal ((c.tc : Thread nD τ), Fm2.bar) 0) ∗ Pipeline.launchCred O₀ c)) ∗ bigSep Finset.univ G)
    from by rw [← BI.bigSep_sep', ← BI.bigSep_sep']; exact BI.bigSep_mono fun c _ => h1 c) $$ H
  icases H' with ⟨Ha, Hb, HG⟩
  ihave Hu := (show bigSep Finset.univ (G (F := F)) ⊢ BI.own (EC uT) from Entails.of_eq (bigSep_on0 _)) $$ HG
  imod (funds m) $$ [Hb Hu] with Hr
  · isplitl [Hb] <;> iassumption
  imodintro
  iapply (show iprop((bigSep Finset.univ fun c : Dev nD => iprop(StableHlo.held (c.tc : Thread nD τ) bufs (W0 m c) ∗ (∃ r, prngReg c r) ∗ ∃ W, owes (c.tc : Thread nD τ) (due2 c + due0 c) W))
      ∗ bigSep Finset.univ fun c : Dev nD => iprop(Pipeline.launchCred due0 c ∗ Pipeline.launchCred due2 c ∗ Fm0.launched E0 (Rd0 m) nb0 c ∗ Fm2.launched E2 (Rd2 (amx m)) nb2 c))
    ⊢ bigSep Finset.univ (T0 m) from by rw [← BI.bigSep_sep']; exact BI.bigSep_mono fun c _ => h2 c)
  isplitl [Ha] <;> iassumption

/-! ## The run -/

/-- The three calls. -/
def segs : List (Pipeline.Seg (pcfgs (F := F)) adm (pdats m) 0 defs₀ 𝒱₀ (L 9) lv) := [.region (reg0 m), .region (reg1 m), .region (reg2 m)]

theorem unscoped_eq : ∀ sm : SemLoc sig, sm.isScoped .tc = false → sm = .reg 0 ∨ sm = .reg 2 := by decide

set_option backward.isDefEq.respectTransparency.types false in
/-- From any memory with every counter at zero the run ends, each device's arrays at the contents computed here, and every counter at zero again. -/
theorem run_main : θ_run (defs (F := F)) (onTc (τ := τ) (main (F := F))) ⟨m, fun _ => 0, ρ⟩
    (fun r => (∀ c : Dev nD, ∀ b ∈ bufs, r.2.mem (c, b) = W3 m c b) ∧ r.2.sem = fun _ => 0) :=
  Pipeline.θ_run_regions_kit_sems (pcfgs (F := F)) adm (pdats m) 0 cellOf_inj EP defs₀ 𝒱₀ (L 9) lv m ρ main (segs m)
    (fun c Q => by rw [show main c = Pipeline.Seg.run (segs m) from main_segs adm (pdats m) 0 𝒱₀ (L 9) lv (reg0 m) (reg1 m) (reg2 m) c])
    (by simp only [segs, Pipeline.Seg.pipes_region, Pipeline.Seg.pipes_nil]; decide)
    (O₀ := O₀) (hL := SiteBlocks.hL 9) (G := G) (u₀ := u₀)
    (hu₀ := by
      unfold u₀ G
      iintro Hu
      ihave H := (ownU_pair _ _) $$ Hu
      icases H with ⟨HP, HX⟩
      imodintro
      isplitl [HP]; · iexact HP
      rw [bigSep_on0]; iexact HX)
    (T₀ := T0 m) (Tₙ := Tn m)
    (hch := ⟨fun c => chain0 m c, fun c => chain1 m c, fun c => chain2 m c, fun c => chain3 m c⟩)
    (hinit := init m ρ)
    (QY := fun c s => (∀ b ∈ bufs, s.mem (c, b) = W3 m c b) ∧ s.sem (regAt c 0) = 0 ∧ s.sem (regAt c 2) = 0)
    (hfin := fun c s' => by
      unfold Tn kept0 kept2
      iintro ⟨⟨Hh, H0, H2⟩, HSI⟩
      imod (Fm0.barPos_read E0 (Rd0 m) c (Sched.later bar0 dorm0 rows0 (fun _ => 1) hok0 (pay0 m) _ 1 (le_refl _)) ∅ s') $$ [H0 HSI] with ⟨%h0, HSI⟩
      · isplitl [H0] <;> iassumption
      imod (Fm2.barPos_read E2 (Rd2 (amx m)) c (Sched.later bar2 dorm2 rows2 (fun _ => 1) hok2 (pay2 (amx m)) _ 1 (le_refl _)) ∅ s') $$ [H2 HSI] with ⟨%h2, HSI⟩
      · isplitl [H2] <;> iassumption
      ihave HR := (pointsTo_read_all bufs (fun b => (c, b)) (fun b => W3 m c b) s') $$ [Hh HSI]
      · isplitl [Hh]; · iapply (Entails.of_eq (show (StableHlo.held (c.tc : Thread nD τ) bufs (W3 m c) : sProp 𝕄) = bigSep bufs fun b => ((c, b) ↦{fullShare} W3 m c b) from rfl)); iexact Hh
        iexact HSI
      icases HR with ⟨%hb, HSI⟩
      imodintro
      isplitr
      · ipureintro; exact ⟨hb, h0, h2⟩
      iexact HSI)
    (hQ := fun s h hs => ⟨fun c => (h c).1,
      sem_eq_zero hs fun c sm hsm => by
        rcases unscoped_eq sm hsm with rfl | rfl
        · exact (h c).2.1
        · exact (h c).2.2⟩)

end Cert.Talk

end
-- ==== Proof.Same.lean ====
/-
  The program printed for the machine's words and the one printed for the extended reals are one text: function by
  function the two are the same term.
-/
module

public import proofs.«01_k».proof.Proof.Gen.Kernel
public import proofs.«01_k».proof.Proof.Gen.KernelIdeal

@[expose] public section

noncomputable section

namespace Cert.Talk

open Idealize.ShloMosaic Idealize.ShloMosaic.TcCoe Idealize.SL.Sem

variable {F : FTy → Type} [FloatOps F]

theorem same_sig : Cert.Kernel.sig = Cert.KernelIdeal.sig := rfl
theorem same_L : Cert.Kernel.Λ₀ = Cert.KernelIdeal.Λ₀ := rfl
set_option maxHeartbeats 4000000
set_option synthInstance.maxHeartbeats 400000
theorem same_ag : @Eq (type_of% (Cert.KernelIdeal.cc0__ag_body (F := F))) (Cert.Kernel.cc0__ag_body (F := F)) (Cert.KernelIdeal.cc0__ag_body (F := F)) := rfl
theorem same_gemm : @Eq (type_of% (Cert.KernelIdeal.cc1__gemm_body (F := F))) (Cert.Kernel.cc1__gemm_body (F := F)) (Cert.KernelIdeal.cc1__gemm_body (F := F)) := rfl
theorem same_epi : @Eq (type_of% (Cert.KernelIdeal.cc2__epi_body (F := F))) (Cert.Kernel.cc2__epi_body (F := F)) (Cert.KernelIdeal.cc2__epi_body (F := F)) := rfl

/-- The two body tables agree label by label. -/
theorem same_defs₀ : @Eq (type_of% (Cert.KernelIdeal.defs₀ (F := F))) (Cert.Kernel.defs₀ (F := F)) (Cert.KernelIdeal.defs₀ (F := F)) := by
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl
  | 1, (t, s) => rfl
  | 2, (t, s) => rfl
  | ⟨_ + 3, h⟩, _ => exact absurd h (Nat.not_lt.2 (Nat.le_add_left _ _))

/-- With the calls' entries and loops. -/
theorem same_defs : @Eq (type_of% (Cert.KernelIdeal.defs (F := F))) (Cert.Kernel.defs (F := F)) (Cert.KernelIdeal.defs (F := F)) :=
  congrArg (Pipeline.defs (Cert.KernelIdeal.pcfgs (F := F))) same_defs₀

theorem same_main : @Eq (type_of% (Cert.KernelIdeal.main (F := F))) (Cert.Kernel.main (F := F)) (Cert.KernelIdeal.main (F := F)) := rfl

end Cert.Talk

end
-- ==== Proof.Frames.lean ====
/-
  The frames: each program runs, leaves its arguments as they were, and ends with every counter at zero.
-/
module

public import proofs.«01_k».proof.Defs
public import proofs.«01_k».proof.Proof.Run
public import proofs.«01_k».proof.Proof.Same
public import proofs.«01_k».proof.Proof.Gen.ReferenceIdeal.Frame

@[expose] public section

noncomputable section

namespace Cert.Talk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The arguments are not among the arrays that the calls write. -/
theorem W3_arg (b : Ref sig .tc) (h : b = main_arg0 ∨ b = main_arg1) : W3 m c (Proc.devRef .tc b) = m ((c.tc : Thread nD τ).loc b) := by
  have h1 : (Proc.devRef .tc b : DevRef τ sig) ∉ ({Proc.devRef .tc main_v1, Proc.devRef .tc main_v2_0, Proc.devRef .tc main_v2_1, Proc.devRef .tc main_v3} : Finset (DevRef τ sig)) := by
    rcases h with rfl | rfl <;> decide
  simp only [Finset.mem_insert, Finset.mem_singleton, not_or] at h1
  unfold W3 W2 W1
  rw [Function.update_of_ne h1.2.2.2, Function.update_of_ne h1.2.2.1, Function.update_of_ne h1.2.1, Function.update_of_ne h1.1]
  rfl

theorem mem_bufs (b : Ref sig .tc) (h : b ∈ [main_arg0, main_arg1, main_v3]) : (Proc.devRef .tc b : DevRef τ sig) ∈ bufs := by
  revert b; decide

/-- What is claimed of a run: the result as computed, the arguments unchanged, every counter at zero. -/
theorem run_result : θ_run (defs (F := F)) (onTc (τ := τ) (main (F := F))) ⟨m, fun _ => 0, ρ⟩
    (fun r => (∀ c : Dev nD, r.2.mem ((c.tc : Thread nD τ).loc main_v3) = (dat2 m c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c =>
    ⟨(h.1 c _ (mem_bufs main_v3 (by decide))).trans (W3_o m c), (h.1 c _ (mem_bufs main_arg0 (by decide))).trans (W3_arg m c main_arg0 (Or.inl rfl)),
      (h.1 c _ (mem_bufs main_arg1 (by decide))).trans (W3_arg m c main_arg1 (Or.inr rfl))⟩, h.2⟩) (run_main m ρ)

/-- Of a run: the arguments unchanged, every counter at zero. -/
theorem run_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run (defs (F := F)) _ _).mono (fun r h => ⟨fun c => (h.1 c).2, h.2⟩) (run_result m ρ)

set_option maxHeartbeats 4000000 in
/-- The kernel's frame at the machine's words: the same run. -/
theorem frame_kernel : Cert.quiescent_Kernel := by
  intro m ρ _
  have h := run_frame (F := Bits) m ρ
  rw [← same_defs] at h
  exact h

/-- The same run at the extended reals. -/
theorem frame_ideal : Cert.quiescent_KernelIdeal := fun m ρ _ =>
  (θ_run Cert.KernelIdeal.defs _ _).mono (fun _ h => ⟨fun c => (h.1 c).2, h.2⟩) (run_result (F := Ideal) m ρ)

/-- The reference: one call on each device, between host operations. -/
theorem frame_reference : Cert.quiescent_ReferenceIdeal := fun m ρ _ => Cert.ReferenceIdeal.Gen.frame m ρ

end Cert.Talk

end
-- ==== Proof.Blocks.lean ====
/-
  The windows' blocks of the product's and the last call's arrays: which rows and columns a point's block holds.
-/
module

public import proofs.«01_k».proof.Proof.Data

@[expose] public section

noncomputable section

namespace Cert.Talk

open Cert.KernelIdeal Cert.KernelIdeal.Gen
open Idealize.ShloMosaic Idealize.ShloMosaic.TcCoe Idealize.SL.Sem

/-- Points of the product: the row tile runs fastest. -/
theorem index1 : ∀ t : Fin cfg1.N, win1_0.index t 0 = t.val % 16 ∧ win1_0.index t 1 = 0 ∧ win1_1.index t 0 = 0 ∧ win1_1.index t 1 = t.val / 16
    ∧ win1_2.index t 0 = t.val % 16 ∧ win1_2.index t 1 = t.val / 16 ∧ win1_3.index t 0 = 0 ∧ win1_3.index t 1 = 0 :=
  (by decide +kernel : ∀ t : Fin grid1.N, win1_0.index t 0 = t.val % 16 ∧ win1_0.index t 1 = 0 ∧ win1_1.index t 0 = 0 ∧ win1_1.index t 1 = t.val / 16
    ∧ win1_2.index t 0 = t.val % 16 ∧ win1_2.index t 1 = t.val / 16 ∧ win1_3.index t 0 = 0 ∧ win1_3.index t 1 = 0)

/-- Points of the last call: one after the other down the rows. -/
theorem index2 : ∀ t : Fin cfg2.N, win2_0.index t 0 = 0 ∧ win2_0.index t 1 = 0 ∧ win2_1.index t 0 = t.val ∧ win2_1.index t 1 = 0
    ∧ win2_2.index t 0 = t.val ∧ win2_2.index t 1 = 0 :=
  (by decide +kernel : ∀ t : Fin grid2.N, win2_0.index t 0 = 0 ∧ win2_0.index t 1 = 0 ∧ win2_1.index t 0 = t.val ∧ win2_1.index t 1 = 0
    ∧ win2_2.index t 0 = t.val ∧ win2_2.index t 1 = 0)

/-- Where a tile of the gathered array lies. -/
theorem place1_0 (t : Fin cfg1.N) (i : S256x4096.Idx) (j : S4096x4096.Idx) (h0 : (j 0).val = t.val % 16 * 256 + (i 0).val) (h1 : (j 1).val = (i 1).val) :
    ((cfg1.win 0).blk t).view.emb i = j := by
  have h : ((cfg1.win 0).blk t).view.emb i = (j : S4096x4096.Idx) := by
    obtain ⟨e0, e1, -⟩ := index1 t
    funext a
    apply Fin.ext
    match a with
    | 0 => show win1_0.index t 0 * 256 + 1 * (i 0).val = (j 0).val; rw [e0]; omega
    | 1 => show win1_0.index t 1 * 4096 + 1 * (i 1).val = (j 1).val; rw [e1]; omega
  exact h

/-- Where a tile of the columns lies. -/
theorem place1_1 (t : Fin cfg1.N) (i : S4096x1024.Idx) (j : S4096x2048.Idx) (h0 : (j 0).val = (i 0).val) (h1 : (j 1).val = t.val / 16 * 1024 + (i 1).val) :
    ((cfg1.win 1).blk t).view.emb i = j := by
  have h : ((cfg1.win 1).blk t).view.emb i = (j : S4096x2048.Idx) := by
    obtain ⟨_, _, e0, e1, -⟩ := index1 t
    funext a
    apply Fin.ext
    match a with
    | 0 => show win1_1.index t 0 * 4096 + 1 * (i 0).val = (j 0).val; rw [e0]; omega
    | 1 => show win1_1.index t 1 * 1024 + 1 * (i 1).val = (j 1).val; rw [e1]; omega
  exact h

/-- Where a tile of the product lies. -/
theorem place1_2 (t : Fin cfg1.N) (i : S256x1024.Idx) (j : S4096x2048.Idx) (h0 : (j 0).val = t.val % 16 * 256 + (i 0).val) (h1 : (j 1).val = t.val / 16 * 1024 + (i 1).val) :
    ((cfg1.win 2).blk t).view.emb i = j := by
  have h : ((cfg1.win 2).blk t).view.emb i = (j : S4096x2048.Idx) := by
    obtain ⟨_, _, _, _, e0, e1, -⟩ := index1 t
    funext a
    apply Fin.ext
    match a with
    | 0 => show win1_2.index t 0 * 256 + 1 * (i 0).val = (j 0).val; rw [e0]; omega
    | 1 => show win1_2.index t 1 * 1024 + 1 * (i 1).val = (j 1).val; rw [e1]; omega
  exact h

/-- Where the maximum lies. -/
theorem place1_3 (t : Fin cfg1.N) (i : S1x1.Idx) (j : S1x1.Idx) (h0 : (j 0).val = (i 0).val) (h1 : (j 1).val = (i 1).val) :
    ((cfg1.win 3).blk t).view.emb i = j := by
  have h : ((cfg1.win 3).blk t).view.emb i = (j : S1x1.Idx) := by
    obtain ⟨_, _, _, _, _, _, e0, e1⟩ := index1 t
    funext a
    apply Fin.ext
    match a with
    | 0 => show win1_3.index t 0 * 1 + 1 * (i 0).val = (j 0).val; rw [e0]; omega
    | 1 => show win1_3.index t 1 * 1 + 1 * (i 1).val = (j 1).val; rw [e1]; omega
  exact h

/-- Where the last call reads the maximum. -/
theorem place2_0 (t : Fin cfg2.N) (i : S1x1.Idx) (j : S1x1.Idx) (h0 : (j 0).val = (i 0).val) (h1 : (j 1).val = (i 1).val) :
    ((cfg2.win 0).blk t).view.emb i = j := by
  have h : ((cfg2.win 0).blk t).view.emb i = (j : S1x1.Idx) := by
    obtain ⟨e0, e1, -⟩ := index2 t
    funext a
    apply Fin.ext
    match a with
    | 0 => show win2_0.index t 0 * 1 + 1 * (i 0).val = (j 0).val; rw [e0]; omega
    | 1 => show win2_0.index t 1 * 1 + 1 * (i 1).val = (j 1).val; rw [e1]; omega
  exact h

/-- Where the last call reads a tile of the product. -/
theorem place2_1 (t : Fin cfg2.N) (i : S512x2048.Idx) (j : S4096x2048.Idx) (h0 : (j 0).val = t.val * 512 + (i 0).val) (h1 : (j 1).val = (i 1).val) :
    ((cfg2.win 1).blk t).view.emb i = j := by
  have h : ((cfg2.win 1).blk t).view.emb i = (j : S4096x2048.Idx) := by
    obtain ⟨_, _, e0, e1, -⟩ := index2 t
    funext a
    apply Fin.ext
    match a with
    | 0 => show win2_1.index t 0 * 512 + 1 * (i 0).val = (j 0).val; rw [e0]; omega
    | 1 => show win2_1.index t 1 * 2048 + 1 * (i 1).val = (j 1).val; rw [e1]; omega
  exact h

/-- Where the last call writes a tile. -/
theorem place2_2 (t : Fin cfg2.N) (i : S512x2048.Idx) (j : S4096x2048.Idx) (h0 : (j 0).val = t.val * 512 + (i 0).val) (h1 : (j 1).val = (i 1).val) :
    ((cfg2.win 2).blk t).view.emb i = j := by
  have h : ((cfg2.win 2).blk t).view.emb i = (j : S4096x2048.Idx) := by
    obtain ⟨_, _, _, _, e0, e1⟩ := index2 t
    funext a
    apply Fin.ext
    match a with
    | 0 => show win2_2.index t 0 * 512 + 1 * (i 0).val = (j 0).val; rw [e0]; omega
    | 1 => show win2_2.index t 1 * 2048 + 1 * (i 1).val = (j 1).val; rw [e1]; omega
  exact h

end Cert.Talk

end
-- ==== Proof.Quant.lean ====
/-
  One element, over the extended reals: multiplying by the inverse scale and then by the scale is what dividing by the
  scale, clipping and multiplying gives, for an element between zero and the maximum from which the scale is made.
-/
module

public import Idealize.ShloMosaic.PureOps.Ideal.Laws
public import Idealize.ShloMosaic.Lib.Pointwise

@[expose] public section

noncomputable section

namespace Cert.Talk

open Idealize.ShloMosaic

/-- The word of 448. -/
theorem lit_448 : Ideal.ofBits .f32 0x43E00000#32 = ((448 : ℝ) : EReal) := by
  simp [Ideal.ofBits, Ideal.ieee, -EReal.coe_mul, -EReal.coe_neg]; norm_num

/-- The word of −448. -/
theorem lit_neg_448 : Ideal.ofBits .f32 0xC3E00000#32 = ((-448 : ℝ) : EReal) := by
  simp [Ideal.ofBits, Ideal.ieee, -EReal.coe_mul, -EReal.coe_neg]; norm_num

/-- The word of −∞. -/
theorem lit_bot : Ideal.ofBits .f32 0xFF800000#32 = (⊥ : EReal) := by
  simp [Ideal.ofBits, Ideal.ieee]

/-- A finite maximum that is not zero: both ways give the element back. -/
theorem quant_real (y g : ℝ) (h0 : 0 ≤ y) (h : y ≤ g) (hg : 0 < g) :
    (y : EReal) * Ideal.div ((448 : ℝ) : EReal) (g : EReal) * Ideal.div (g : EReal) ((448 : ℝ) : EReal)
      = min ((448 : ℝ) : EReal) (max ((-448 : ℝ) : EReal) (Ideal.div (y : EReal) (Ideal.div (g : EReal) ((448 : ℝ) : EReal))))
        * Ideal.div (g : EReal) ((448 : ℝ) : EReal) := by
  have hg' : (g : EReal) ≠ 0 := by exact_mod_cast hg.ne'
  have h448 : ((448 : ℝ) : EReal) ≠ 0 := by exact_mod_cast (by norm_num : (448 : ℝ) ≠ 0)
  have hs : Ideal.div (g : EReal) ((448 : ℝ) : EReal) = ((g * 448⁻¹ : ℝ) : EReal) := by
    rw [Ideal.div, if_neg h448, ← EReal.coe_inv, ← EReal.coe_mul]
  have hs' : ((g * 448⁻¹ : ℝ) : EReal) ≠ 0 := by exact_mod_cast (by positivity : g * 448⁻¹ ≠ 0)
  rw [hs]
  simp only [Ideal.div, if_neg hg', if_neg hs']
  simp only [← EReal.coe_inv, ← EReal.coe_mul]
  have hle : y * (g * 448⁻¹)⁻¹ ≤ 448 := by
    have : y * (g * 448⁻¹)⁻¹ = 448 * (y / g) := by field_simp
    rw [this]
    nlinarith [(div_le_one hg).2 h]
  have hge : -448 ≤ y * (g * 448⁻¹)⁻¹ := by
    have : 0 ≤ y * (g * 448⁻¹)⁻¹ := by positivity
    linarith
  rw [max_eq_right (EReal.coe_le_coe_iff.2 hge), min_eq_right (EReal.coe_le_coe_iff.2 hle), ← EReal.coe_mul]
  congr 1
  field_simp

/-- Of every element `y` between zero and `g`. At `g = 0` and at `g = ∞` both ways give zero. -/
theorem quant_eq (y g : EReal) (h0 : 0 ≤ y) (h : y ≤ g) :
    y * Ideal.div ((448 : ℝ) : EReal) g * Ideal.div g ((448 : ℝ) : EReal)
      = min ((448 : ℝ) : EReal) (max ((-448 : ℝ) : EReal) (Ideal.div y (Ideal.div g ((448 : ℝ) : EReal)))) * Ideal.div g ((448 : ℝ) : EReal) := by
  have h448 : ((448 : ℝ) : EReal) ≠ 0 := by exact_mod_cast (by norm_num : (448 : ℝ) ≠ 0)
  rcases eq_or_ne g 0 with rfl | hg0
  · have hs : Ideal.div 0 ((448 : ℝ) : EReal) = 0 := by rw [Ideal.div, if_neg h448, zero_mul]
    rw [hs, mul_zero, mul_zero]
  rcases eq_or_ne g ⊤ with rfl | hgt
  · have hs : Ideal.div ⊤ ((448 : ℝ) : EReal) = ⊤ := by
      rw [Ideal.div, if_neg h448, ← EReal.coe_inv]
      exact EReal.top_mul_coe_of_pos (by norm_num)
    rw [hs]
    simp only [Ideal.div, if_neg EReal.top_ne_zero, EReal.inv_top, mul_zero, zero_mul]
    rw [max_eq_right (by exact_mod_cast (by norm_num : (-448 : ℝ) ≤ 0)), min_eq_right (by exact_mod_cast (by norm_num : (0 : ℝ) ≤ 448)), zero_mul]
  have hgpos : 0 < g := lt_of_le_of_ne (h0.trans h) (Ne.symm hg0)
  have hgb : g ≠ ⊥ := (lt_of_le_of_lt bot_le hgpos).ne'
  have hyt : y ≠ ⊤ := fun e => hgt (top_le_iff.1 (e ▸ h))
  have hyb : y ≠ ⊥ := (lt_of_lt_of_le EReal.bot_lt_zero h0).ne'
  lift g to ℝ using ⟨hgt, hgb⟩
  lift y to ℝ using ⟨hyt, hyb⟩
  exact quant_real y g (by exact_mod_cast h0) (by exact_mod_cast h) (by exact_mod_cast hgpos)

end Cert.Talk

end
-- ==== Proof.Payloads.lean ====
/-
  What the kernel's stores hold over the extended reals, element by element: a tile of the product with relu, the maximum
  that is carried from tile to tile, the maximum over the devices, and a quantised tile.
-/
module

public import proofs.«01_k».proof.Proof.Quant
public import proofs.«01_k».proof.Proof.Gen.KernelIdeal.Skeleton

@[expose] public section

noncomputable section

namespace Cert.Talk

open Cert.KernelIdeal Cert.KernelIdeal.Gen
open Idealize.ShloMosaic Idealize.ShloMosaic.TcCoe Idealize.SL.Sem

/-- A tile of the product with relu: row times column, and no less than zero. -/
theorem tile_at (x : Vec Ideal S256x4096 .f32) (w : Vec Ideal S4096x1024 .f32) (i : S256x1024.Idx) :
    k1_pay1 x w i = max (∑ k : Fin 4096, x (ix2 (i 0) k) * w (ix2 k (i 1))) (0 : EReal) := by
  pointwise [k1_pay1]

/-- The carried maximum is at most `b` exactly when what was carried and every element of the tile are. -/
theorem carried_le (x : Vec Ideal S256x4096 .f32) (w : Vec Ideal S4096x1024 .f32) (r b : EReal) :
    k1_pay2 (F := Ideal) x w r ≤ b ↔ r ≤ b ∧ ∀ i : S256x1024.Idx, (k1_pay1 x w i : EReal) ≤ b := by
  unfold k1_pay2
  generalize k1_pay1 x w = y
  pointwise
  rw [max_le_iff, Finset.fold_max_le, lit_bot]
  refine and_congr_right fun _ => ⟨fun h i => ?_, fun h => ⟨bot_le, fun x _ => h _⟩⟩
  rw [eq_ix2 i]
  exact h.2 (i 0, i 1) (Finset.mem_univ _)

/-- The maximum over the devices: of every slot, the own one standing at −∞, and of the own maximum. -/
theorem devices_at (v16 : BitVec 32) (v31 : EReal) (v102 : Vec Ideal S4x1x128 .f32) :
    k2_pay4 (F := Ideal) v16 v31 v102 = max (Finset.fold max (Ideal.ofBits .f32 0xFF800000#32) (fun x : Fin 4 × Fin 128 =>
      Scalar.select (IntOp.cmpi CmpIPredicate.eq (BitVec.ofNat 32 x.1.val) v16) (Ideal.ofBits .f32 0xFF800000#32) (v102 (ix3 x.1 0 x.2))) Finset.univ) v31 := by
  unfold k2_pay4
  pointwise

/-- A choice by the equality of two words. -/
theorem choose_eq {α : Type} (x y : BitVec 32) (a b : α) : Scalar.select (IntOp.cmpi CmpIPredicate.eq x y) a b = if x = y then a else b := by
  unfold Scalar.select IntOp.cmpi
  rcases eq_or_ne x y with h | h
  · subst h; simp
  · rw [if_neg h, if_neg (by simp [beq_eq_false_iff_ne.2 h])]

/-- The maximum over the devices is at most `b` exactly when the own one and every slot but the own one are. -/
theorem devices_le (v16 : BitVec 32) (v31 : EReal) (v102 : Vec Ideal S4x1x128 .f32) (b : EReal) :
    k2_pay4 (F := Ideal) v16 v31 v102 ≤ b ↔ v31 ≤ b ∧ ∀ (j : Fin 4) (l : Fin 128), BitVec.ofNat 32 j.val ≠ v16 → (v102 (ix3 j 0 l) : EReal) ≤ b := by
  rw [devices_at, max_le_iff, Finset.fold_max_le, lit_bot, and_comm]
  simp only [choose_eq]
  refine and_congr_right fun _ => ⟨fun h j l hj => ?_, fun h => ⟨bot_le, fun x _ => ?_⟩⟩
  · simpa only [if_neg hj] using h.2 (j, l) (Finset.mem_univ _)
  · split
    · exact bot_le
    · exact h _ _ ‹_›

/-- The number that a device reads from the array of one element. -/
theorem number_at (v : Vec Ideal S1x1 .f32) : k2_pay2 (F := Ideal) v = v (ix2 0 0) := by
  pointwise [k2_pay2]

/-- A quantised tile: each element times the inverse scale, times the scale. -/
theorem quant_at (s si : EReal) (y : Vec Ideal S512x2048 .f32) (i : S512x2048.Idx) :
    k2_pay1 (F := Ideal) s si y i = (y i : EReal) * si * s := by
  pointwise [k2_pay1]

end Cert.Talk

end
-- ==== Proof.Values.lean ====
/-
  What the kernel's arrays hold over the extended reals: the product with relu, its maximum, the maximum over the devices,
  the result.
-/
module

public import proofs.«01_k».proof.Proof.Blocks
public import proofs.«01_k».proof.Proof.Payloads
public import Idealize.ShloMosaic.Lib.Pipeline.Value

@[expose] public section

noncomputable section

namespace Cert.Talk

open Cert.KernelIdeal Cert.KernelIdeal.Gen
open Idealize.ShloMosaic Idealize.ShloMosaic.TcCoe Idealize.SL.Sem

variable (m : (ℓ : Loc nD τ sig) → Buf (Elt Ideal) ℓ) (c : Dev nD)

/-- A device's columns of the second factor. -/
def wOf : S4096x2048.Idx → EReal := m ((c.tc : Thread nD τ).loc main_arg1)

/-- A device's columns of the product, with relu. -/
def prod : S4096x2048.Idx → EReal := fun j => max (∑ k : Fin 4096, gath m (ix2 (j 0) k) * wOf m c (ix2 k (j 1))) 0

theorem prod_nonneg (j : S4096x2048.Idx) : 0 ≤ prod m c j := le_max_right _ _

/-! ## The product's tiles -/

theorem xb_at (t : Fin cfg1.N) (i : S256x4096.Idx) (j : S4096x4096.Idx) (h0 : (j 0).val = t.val % 16 * 256 + (i 0).val) (h1 : (j 1).val = (i 1).val) :
    xb m c t i = gath m j := by
  have e : xb m c t i = W1 m c (Proc.devRef .tc main_v1) (((cfg1.win 0).blk t).view.emb i) := rfl
  rw [e, place1_0 t i j h0 h1, W1, Function.update_self]

theorem wb_at (t : Fin cfg1.N) (i : S4096x1024.Idx) (j : S4096x2048.Idx) (h0 : (j 0).val = (i 0).val) (h1 : (j 1).val = t.val / 16 * 1024 + (i 1).val) :
    wb m c t i = wOf m c j := by
  have e : wb m c t i = W1 m c (Proc.devRef .tc main_arg1) (((cfg1.win 1).blk t).view.emb i) := rfl
  have hne : (Proc.devRef .tc main_arg1 : DevRef τ sig) ≠ Proc.devRef .tc main_v1 := by decide
  rw [e, place1_1 t i j h0 h1, W1, Function.update_of_ne hne]
  rfl

/-- A tile of the product is that part of the product. -/
theorem tile_eq (t : Fin cfg1.N) (i : S256x1024.Idx) (j : S4096x2048.Idx) (h0 : (j 0).val = t.val % 16 * 256 + (i 0).val)
    (h1 : (j 1).val = t.val / 16 * 1024 + (i 1).val) : k1_pay1 (xb m c t) (wb m c t) i = prod m c j := by
  rw [tile_at, prod]
  congr 1
  refine Finset.sum_congr rfl fun k _ => ?_
  rw [xb_at m c t (ix2 (i 0) k) (ix2 (j 0) k) h0 rfl, wb_at m c t (ix2 k (i 1)) (ix2 k (j 1)) rfl h1]

/-- Every element of the product lies in a tile. -/
theorem in_tile (j : S4096x2048.Idx) : ∃ (t : Fin cfg1.N) (i : S256x1024.Idx), (j 0).val = t.val % 16 * 256 + (i 0).val ∧ (j 1).val = t.val / 16 * 1024 + (i 1).val := by
  have h0 : (j 0).val < 4096 := (j 0).isLt
  have h1 : (j 1).val < 2048 := (j 1).isLt
  refine ⟨⟨(j 1).val / 1024 * 16 + (j 0).val / 256, by show _ < 32; omega⟩,
    ix2 ⟨(j 0).val % 256, Nat.mod_lt _ (by decide)⟩ ⟨(j 1).val % 1024, Nat.mod_lt _ (by decide)⟩, ?_, ?_⟩
  · show (j 0).val = ((j 1).val / 1024 * 16 + (j 0).val / 256) % 16 * 256 + (j 0).val % 256; omega
  · show (j 1).val = ((j 1).val / 1024 * 16 + (j 0).val / 256) / 16 * 1024 + (j 1).val % 1024; omega

/-- Every element of a tile is one of the product. -/
theorem of_tile (t : Fin cfg1.N) (i : S256x1024.Idx) : ∃ j : S4096x2048.Idx, (j 0).val = t.val % 16 * 256 + (i 0).val ∧ (j 1).val = t.val / 16 * 1024 + (i 1).val := by
  have h0 : (i 0).val < 256 := (i 0).isLt
  have h1 : (i 1).val < 1024 := (i 1).isLt
  have ht : t.val < 32 := t.isLt
  exact ⟨ix2 ⟨t.val % 16 * 256 + (i 0).val, by omega⟩ ⟨t.val / 16 * 1024 + (i 1).val, by omega⟩, rfl, rfl⟩

/-- After the product its array holds it. -/
theorem array_prod : (dat1 m c).arrAt 2 cfg1.N = prod m c := by
  refine (dat1 m c).arrAt_eq_of_cover 2 (prod m c) (fun t _ => ?_) (fun j => ?_)
  · funext i
    obtain ⟨j, h0, h1⟩ := of_tile t i
    have e : (dat1 m c).flushed 2 t i = k1_pay1 (xb m c t) (wb m c t) i := rfl
    have e' : ((cfg1.win 2).blk t).view.read (Elt Ideal) (prod m c) i = prod m c (((cfg1.win 2).blk t).view.emb i) := rfl
    rw [e, tile_eq m c t i j h0 h1]
    refine Eq.trans ?_ e'.symm
    rw [place1_2 t i j h0 h1]
  · obtain ⟨t, i, h0, h1⟩ := in_tile j
    refine ⟨t, flush1_2 t, ?_⟩
    rw [← place1_2 t i j h0 h1]
    exact View.emb_mem_set _ _

/-! ## The maxima -/

/-- The maximum carried over the first n tiles is at most `b` exactly when zero and all their elements are. -/
theorem rmax_le (b : EReal) : ∀ n : ℕ, (rmax m c n : EReal) ≤ b ↔ 0 ≤ b ∧ ∀ (t : Fin cfg1.N), t.val < n → ∀ i, (k1_pay1 (xb m c t) (wb m c t) i : EReal) ≤ b
  | 0 => by
    have e : (rmax m c 0 : EReal) = 0 := Ideal.ofBits_zero_f32
    rw [e]
    exact ⟨fun h => ⟨h, fun t ht => absurd ht (Nat.not_lt_zero _)⟩, fun h => h.1⟩
  | n + 1 => by
    by_cases hn : n < cfg1.N
    · have e : (rmax m c (n + 1) : EReal) = k1_pay2 (F := Ideal) (xb m c ⟨n, hn⟩) (wb m c ⟨n, hn⟩) (rmax m c n) := by rw [rmax, dif_pos hn]
      rw [e, carried_le, rmax_le b n]
      refine ⟨fun h => ⟨h.1.1, fun t ht i => ?_⟩, fun h => ⟨⟨h.1, fun t ht => h.2 t (by omega)⟩, h.2 ⟨n, hn⟩ (Nat.lt_succ_self n)⟩⟩
      rcases Nat.lt_succ_iff_lt_or_eq.1 ht with h' | h'
      · exact h.1.2 t h' i
      · obtain rfl : t = ⟨n, hn⟩ := Fin.ext h'
        exact h.2 i
    · have e : (rmax m c (n + 1) : EReal) = rmax m c n := by rw [rmax, dif_neg hn]
      rw [e, rmax_le b n]
      exact and_congr_right fun _ => ⟨fun h t _ => h t (lt_of_lt_of_le t.isLt (Nat.not_lt.1 hn)), fun h t ht => h t (by omega)⟩

/-- What the last point writes back is the maximum carried over all tiles. -/
theorem flushed_max (v : EReal) (hv : rmax m c 32 = v) (t : Fin cfg1.N) (hf : (cfg1.win 3).flush t = true) (i : S1x1.Idx) : (dat1 m c).flushed 3 t i = v := by
  have ht : t.val + 1 = 32 := by have := (flush1_3 t).1 hf; have : t.val < 32 := t.isLt; omega
  have e : (dat1 m c).flushed 3 t i = k1_pay3 (rmax m c (t.val + 1)) i := rfl
  rw [e, ht, hv]
  rfl

/-- After the product the second array holds the maximum carried over all tiles. -/
theorem array_max (v : EReal) (hv : rmax m c 32 = v) : (dat1 m c).arrAt 3 cfg1.N = fun _ => v := by
  refine (dat1 m c).arrAt_eq_of_cover 3 (fun _ => v) (fun t hf => funext fun i => flushed_max m c v hv t hf i) (fun j => ?_)
  have h31 : 31 < cfg1.N := by show 31 < 32; omega
  have hj0 : (j 0).val < 1 := (j 0).isLt
  have hj1 : (j 1).val < 1 := (j 1).isLt
  refine ⟨⟨31, h31⟩, (flush1_3 ⟨31, h31⟩).2 rfl, ?_⟩
  rw [← place1_3 ⟨31, h31⟩ j j rfl rfl]
  exact View.emb_mem_set _ _

/-- The last call reads it. -/
theorem mb_at (v : EReal) (hv : rmax m c 32 = v) (t : Fin cfg2.N) (i : S1x1.Idx) : mb m c t i = v := by
  have h : W2 m c (Proc.devRef .tc main_v2_1) = fun _ => v := by rw [W2, Function.update_self, array_max m c v hv]
  have e : mb m c t = ((cfg2.win 0).blk t).view.read (Elt Ideal) (W2 m c (Proc.devRef .tc main_v2_1)) := by unfold mb; rfl
  rw [e, h]
  rfl

/-- The number that a device sends. -/
theorem amx_eq : amx m c = rmax m c 32 := by
  rw [amx, number_at, mb_at m c _ rfl]

/-- It is at most `b` exactly when the device's columns of the product are. -/
theorem amx_le (b : EReal) : (amx m c : EReal) ≤ b ↔ ∀ j, prod m c j ≤ b := by
  rw [amx_eq, rmax_le]
  refine ⟨fun h j => ?_, fun h => ⟨(prod_nonneg m c (ix2 0 0)).trans (h _), fun t _ i => ?_⟩⟩
  · obtain ⟨t, i, h0, h1⟩ := in_tile j
    rw [← tile_eq m c t i j h0 h1]
    exact h.2 t t.isLt i
  · obtain ⟨j, h0, h1⟩ := of_tile t i
    rw [tile_eq m c t i j h0 h1]
    exact h j

/-- The maximum over the devices, as device c computes it. -/
def gmax : EReal := k2_pay4 (F := Ideal) (myW c) (amx m c) (slotR m)

/-- A slot whose place is the device's own number is its own. -/
theorem own_slot : ∀ d c : Dev nD, BitVec.ofNat 32 d.val = myW c → d = c := by decide

/-- It is at most `b` exactly when the whole product is. -/
theorem gmax_le (b : EReal) : gmax m c ≤ b ↔ ∀ (d : Dev nD) (j : S4096x2048.Idx), prod m d j ≤ b := by
  have e : ∀ (d : Fin 4) (l : Fin 128), slotR m (ix3 d 0 l) = amx m d := fun _ _ => rfl
  rw [gmax, devices_le]
  refine ⟨fun h d => (amx_le m d b).1 ?_, fun h => ⟨(amx_le m c b).2 (h c), fun d l _ => ?_⟩⟩
  · by_cases hd : BitVec.ofNat 32 d.val = myW c
    · exact own_slot d c hd ▸ h.1
    · have := h.2 d 0 hd
      rwa [e] at this
  · rw [e]
    exact (amx_le m d b).2 (h d)

/-! ## The result -/

/-- The result that device c leaves. -/
def result : S4096x2048.Idx → EReal := fun j => prod m c j * Ideal.div ((448 : ℝ) : EReal) (gmax m c) * Ideal.div (gmax m c) ((448 : ℝ) : EReal)

theorem yb_at (t : Fin cfg2.N) (i : S512x2048.Idx) (j : S4096x2048.Idx) (h0 : (j 0).val = t.val * 512 + (i 0).val) (h1 : (j 1).val = (i 1).val) :
    yb m c t i = prod m c j := by
  have e : yb m c t i = W2 m c (Proc.devRef .tc main_v2_0) (((cfg2.win 1).blk t).view.emb i) := rfl
  have hne : (Proc.devRef .tc main_v2_0 : DevRef τ sig) ≠ Proc.devRef .tc main_v2_1 := by decide
  rw [e, place2_1 t i j h0 h1, W2, Function.update_of_ne hne, Function.update_self, array_prod]

theorem scl_eq : (scl m c : EReal) = Ideal.div (gmax m c) ((448 : ℝ) : EReal) := by rw [← lit_448]; rfl
theorem scli_eq : (scli m c : EReal) = Ideal.div ((448 : ℝ) : EReal) (gmax m c) := by rw [← lit_448]; rfl

/-- Every element of the result lies in a block of the last call. -/
theorem in_block (j : S4096x2048.Idx) : ∃ (t : Fin cfg2.N) (i : S512x2048.Idx), (j 0).val = t.val * 512 + (i 0).val ∧ (j 1).val = (i 1).val := by
  have h0 : (j 0).val < 4096 := (j 0).isLt
  refine ⟨⟨(j 0).val / 512, by show _ < 8; omega⟩, ix2 ⟨(j 0).val % 512, Nat.mod_lt _ (by decide)⟩ (j 1), ?_, rfl⟩
  show (j 0).val = (j 0).val / 512 * 512 + (j 0).val % 512; omega

/-- After the last call its array holds it. -/
theorem array_result : (dat2 m c).arrAt 2 cfg2.N = result m c := by
  refine (dat2 m c).arrAt_eq_of_cover 2 (result m c) (fun t _ => ?_) (fun j => ?_)
  · funext i
    have hi0 : (i 0).val < 512 := (i 0).isLt
    have ht : t.val < 8 := t.isLt
    have h0 : ((ix2 ⟨t.val * 512 + (i 0).val, by omega⟩ (i 1) : S4096x2048.Idx) 0).val = t.val * 512 + (i 0).val := rfl
    have e : (dat2 m c).flushed 2 t i = k2_pay1 (F := Ideal) (scl m c) (scli m c) (yb m c t) i := rfl
    have e' : ((cfg2.win 2).blk t).view.read (Elt Ideal) (result m c) i = result m c (((cfg2.win 2).blk t).view.emb i) := rfl
    rw [e, quant_at, yb_at m c t i _ h0 rfl, scl_eq, scli_eq]
    refine Eq.trans ?_ e'.symm
    rw [place2_2 t i _ h0 rfl]
    rfl
  · obtain ⟨t, i, h0, h1⟩ := in_block j
    refine ⟨t, flush2_2 t, ?_⟩
    rw [← place2_2 t i j h0 h1]
    exact View.emb_mem_set _ _

end Cert.Talk

end
-- ==== Proof.Reference.lean ====
/-
  What the reference's result holds over the extended reals, index by index: the product with relu, its maximum, the
  quantised product.
-/
module

public import proofs.«01_k».proof.Proof.Quant
public import proofs.«01_k».proof.Proof.Gen.ReferenceIdeal.Value
public import Idealize.ShloMosaic.Lib.Pointwise
public import Idealize.ShloMosaic.Lib.Claim

@[expose] public section

noncomputable section

namespace Cert.Talk.Ref

open Cert.ReferenceIdeal Cert.ReferenceIdeal.Gen
open Idealize.ShloMosaic Idealize.ShloMosaic.TcCoe Idealize.SL.Sem

/-- The product with relu. -/
def relu (x : FVec Ideal S4096x4096 .f32) (w : FVec Ideal S4096x8192 .f32) : FVec Ideal S4096x8192 .f32 :=
  maximumf (Host.dotGeneral dot_S4096x4096_S4096x8192_S4096x8192_1_0_0_1_n_n none x w) (broadcastInDim S4096x8192 ![] bcast_S_S4096x8192 (constant (F := Ideal) S_ .f32 0x00000000#32))

/-- Its largest absolute value. -/
def top (y : FVec Ideal S4096x8192 .f32) : FVec Ideal S_ .f32 :=
  Host.reduce FloatOps.maximumf (Host.absf y) (constant (F := Ideal) S_ .f32 0xFF800000#32) reducesTo_S4096x8192_S_d0_1 h_S_

/-- The scale, as an array of one element. -/
def scale (y : FVec Ideal S4096x8192 .f32) : FVec Ideal S1x1 .f32 :=
  shapeCast S1x1 (Host.divf (top y) (constant (F := Ideal) S_ .f32 0x43E00000#32)) shapeCasts_S_S1x1

theorem relu_at (x : FVec Ideal S4096x4096 .f32) (w : FVec Ideal S4096x8192 .f32) (i : S4096x8192.Idx) :
    relu x w i = max (∑ k : Fin 4096, x (ix2 (i 0) k) * w (ix2 k (i 1))) (0 : EReal) := by
  pointwise [relu]

theorem relu_nonneg (x : FVec Ideal S4096x4096 .f32) (w : FVec Ideal S4096x8192 .f32) (i : S4096x8192.Idx) : (0 : EReal) ≤ relu x w i := by
  rw [relu_at]; exact le_max_right _ _

/-- A maximum over all of a finite type, starting from `a`. -/
theorem fold_le {ι : Type} [Fintype ι] (a b : EReal) (f : ι → EReal) : Finset.fold max a f Finset.univ ≤ b ↔ a ≤ b ∧ ∀ x, f x ≤ b := by
  rw [Finset.fold_max_le]
  exact and_congr_right fun _ => ⟨fun h x => h x (Finset.mem_univ x), fun h x _ => h x⟩

/-- The largest absolute value of a product that is nowhere negative is at most `b` exactly when every element is. -/
theorem top_le (y : FVec Ideal S4096x8192 .f32) (hy : ∀ i, (0 : EReal) ≤ y i) (z : S_.Idx) (b : EReal) : (top y z : EReal) ≤ b ↔ ∀ i, (y i : EReal) ≤ b := by
  have ha : ∀ i, (max (y i : EReal) (-(y i : EReal))) = y i := fun i => max_eq_left ((by simpa using EReal.neg_le_neg_iff.2 (hy i) : -(y i : EReal) ≤ 0).trans (hy i))
  unfold top
  pointwise
  rw [fold_le, lit_bot]
  refine ⟨fun h i => ?_, fun h => ⟨bot_le, fun x => ?_⟩⟩
  · have h' := h.2 (i 0, i 1)
    rw [← ha i, eq_ix2 i]
    exact h'
  · have h' := h (ix2 x.1 x.2)
    rw [← ha] at h'
    exact h'

theorem scale_at (y : FVec Ideal S4096x8192 .f32) (i : S1x1.Idx) (z : S_.Idx) : (scale y i : EReal) = Ideal.div (top y z) ((448 : ℝ) : EReal) := by
  rw [← lit_448]
  unfold scale
  generalize top y = g
  pointwise
  rw [show z = ix0 from funext fun a => a.elim0]

variable (m : (ℓ : Loc nD τ sig) → Buf (Elt Ideal) ℓ) (c : Dev nD)

/-- The product as launched. -/
def refY : FVec Ideal S4096x8192 .f32 := relu (m ((c : Thread nD τ).loc main_arg0)) (m ((c : Thread nD τ).loc main_arg1))

theorem V_main_v2 : V m c main_v2 = refY m c := by
  show StableHlo.after hostOps0 _ (Proc.devRef .tc main_v2) = _
  after_results
  rfl

theorem V_main_v6 : V m c main_v6 = scale (refY m c) := by
  show StableHlo.after hostOps0 _ (Proc.devRef .tc main_v6) = _
  after_results
  rfl

/-- The result's window is the whole array, and so are the operands'. -/
theorem place0 (t : Fin cfg0.N) (i : S4096x8192.Idx) : ((cfg0.win 0).blk t).view.emb i = i := by
  have h : ((cfg0.win 0).blk t).view.emb i = (i : S4096x8192.Idx) := by
    funext a
    apply Fin.ext
    match a with
    | 0 => show 0 * 4096 + 1 * (i 0).val = (i 0).val; omega
    | 1 => show 0 * 8192 + 1 * (i 1).val = (i 1).val; omega
  exact h

theorem place1 (t : Fin cfg0.N) (i : S1x1.Idx) : ((cfg0.win 1).blk t).view.emb i = i := by
  have h : ((cfg0.win 1).blk t).view.emb i = (i : S1x1.Idx) := by
    funext a
    apply Fin.ext
    match a with
    | 0 => show 0 * 1 + 1 * (i 0).val = (i 0).val; omega
    | 1 => show 0 * 1 + 1 * (i 1).val = (i 1).val; omega
  exact h

theorem place2 (t : Fin cfg0.N) (i : S4096x8192.Idx) : ((cfg0.win 2).blk t).view.emb i = i := by
  have h : ((cfg0.win 2).blk t).view.emb i = (i : S4096x8192.Idx) := by
    funext a
    apply Fin.ext
    match a with
    | 0 => show 0 * 4096 + 1 * (i 0).val = (i 0).val; omega
    | 1 => show 0 * 8192 + 1 * (i 1).val = (i 1).val; omega
  exact h

/-- The scale. -/
def refS (z : S_.Idx) : EReal := Ideal.div (top (refY m c) z) ((448 : ℝ) : EReal)

/-- The result: each element over the scale, held between −448 and 448, times the scale. -/
def final (z : S_.Idx) : S4096x8192.Idx → EReal := fun i =>
  min ((448 : ℝ) : EReal) (max ((-448 : ℝ) : EReal) (Ideal.div (refY m c i) (refS m c z))) * refS m c z

theorem hz : (![0, 0] : Fin 2 → Nat) = fun _ => 0 := funext fun a => by fin_cases a <;> rfl

/-- The quantised element. -/
theorem quantised (y : Vec Ideal S4096x8192 .f32) (s : Vec Ideal S1x1 .f32) (i : S4096x8192.Idx) (e : EReal) (hs : ∀ j, (s j : EReal) = e) :
    (Value.E2 (F := Ideal) y s i : EReal) = min ((448 : ℝ) : EReal) (max ((-448 : ℝ) : EReal) (Ideal.div (y i) e)) * e := by
  have h0 : Value.ix2_0 i = i := funext fun a => by
    match a with
    | 0 => rfl
    | 1 => rfl
  rw [← lit_448, ← lit_neg_448]
  unfold Value.E2
  rw [h0]
  have h1 := hs (Value.ix2_1 i)
  rw [h1]
  rfl

/-- What the call's one point reads. -/
theorem block0 (t : Fin cfg0.N) : iblk m c 0 t = refY m c := by
  funext i
  have e : iblk m c 0 t i = V m c main_v2 (((cfg0.win 0).blk t).view.emb i) := rfl
  rw [e, place0, V_main_v2]

theorem block1 (t : Fin cfg0.N) : iblk m c 1 t = scale (refY m c) := by
  funext i
  have e : iblk m c 1 t i = V m c main_v6 (((cfg0.win 1).blk t).view.emb i) := rfl
  rw [e, place1, V_main_v6]

theorem flushed_at (z : S_.Idx) (t : Fin cfg0.N) (i : S4096x8192.Idx) : (dats m 0 c).flushed 2 t i = final m c z i := by
  have e : (dats m 0 c).flushed 2 t i = out0_2 (iblk m c 0 t) (iblk m c 1 t) i := by rw [Value.flushed2]; rfl
  rw [e, block0, block1, out0_2, View.ld_unit_zero hz, View.ld_unit_zero hz, Value.canon2_eq]
  exact quantised _ _ _ _ fun j => scale_at _ j z

/-- The result's array after the call. -/
theorem array_final (z : S_.Idx) : (dats m 0 c).arrAt 2 cfg0.N = final m c z := by
  refine (dats m 0 c).arrAt_eq_of_cover 2 (final m c z) (fun t _ => ?_) (fun j => ?_)
  · funext i
    have e' : ((cfg0.win 2).blk t).view.read (Elt Ideal) (final m c z) i = final m c z (((cfg0.win 2).blk t).view.emb i) := rfl
    refine (flushed_at m c z t i).trans (Eq.trans ?_ e'.symm)
    rw [place2]
  · have ht : 0 < cfg0.N := by rw [show cfg0.N = 1 from N_0]; omega
    refine ⟨⟨0, ht⟩, flush0_2 _, ?_⟩
    rw [← place2 ⟨0, ht⟩ j]
    exact View.emb_mem_set _ _

end Cert.Talk.Ref

end
-- ==== Proof.Algebraic.lean ====
/-
  The kernel's result is the reference's: with the arguments cut over the devices, each device's columns of the product are the
  reference's columns, the maxima agree, and an element times the inverse scale times the scale is the quantised element.
-/
module

public import proofs.«01_k».proof.Defs
public import proofs.«01_k».proof.Proof.Frames
public import proofs.«01_k».proof.Proof.Values
public import proofs.«01_k».proof.Proof.Reference

@[expose] public section

noncomputable section

namespace Cert.Talk

open Idealize.ShloMosaic Idealize.ShloMosaic.TcCoe Idealize.SL.Sem
open Cert.KernelIdeal (S1024x4096 S4096x4096 S4096x2048)
open Cert.ReferenceIdeal (S4096x8192)

/-- Where a device's column lies among all columns. -/
def colOf (c : Fin 4) (j : S4096x2048.Idx) : S4096x8192.Idx :=
  ix2 (j 0) ⟨c.val * 2048 + (j 1).val, by have : (j 1).val < 2048 := (j 1).isLt; have := c.isLt; show _ < 8192; omega⟩

/-- Every column is a device's. -/
theorem of_col (i : S4096x8192.Idx) : ∃ (c : Fin 4) (j : S4096x2048.Idx), colOf c j = i := by
  have h1 : (i 1).val < 8192 := (i 1).isLt
  refine ⟨⟨(i 1).val / 2048, by omega⟩, ix2 (i 0) ⟨(i 1).val % 2048, Nat.mod_lt _ (by decide)⟩, ?_⟩
  funext a
  apply Fin.ext
  match a with
  | 0 => rfl
  | 1 => show (i 1).val / 2048 * 2048 + (i 1).val % 2048 = (i 1).val; omega

/-- A device's block of columns, element by element. -/
theorem block_col {α : Type} (c : Fin 4) (v : S4096x8192.Idx → α) (j : S4096x2048.Idx) :
    Layout.block (⟨2, ![4096, 2048]⟩ : Shape) (⟨2, ![4096, 8192]⟩ : Shape) 1 4 c v (by decide) j = v (colOf c j) := by
  rw [Layout.block_apply]
  congr 1
  funext a
  apply Fin.ext
  match a with
  | 0 => rfl
  | 1 => rfl

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The whole factors. -/
def allX : S4096x4096.Idx → EReal := m' (((0 : Dev Cert.ReferenceIdeal.nD).tc : Thread Cert.ReferenceIdeal.nD Cert.ReferenceIdeal.τ).loc Cert.ReferenceIdeal.main_arg0)
def allW : S4096x8192.Idx → EReal := m' (((0 : Dev Cert.ReferenceIdeal.nD).tc : Thread Cert.ReferenceIdeal.nD Cert.ReferenceIdeal.τ).loc Cert.ReferenceIdeal.main_arg1)

/-- The arguments of the kernel are the reference's, cut over the devices. -/
def Cut : Prop := ∀ c : Dev Cert.KernelIdeal.nD,
  xOf m c = Layout.block (⟨2, ![1024, 4096]⟩ : Shape) (⟨2, ![4096, 4096]⟩ : Shape) 0 4 c (allX m') (by decide)
  ∧ wOf m c = Layout.block (⟨2, ![4096, 2048]⟩ : Shape) (⟨2, ![4096, 8192]⟩ : Shape) 1 4 c (allW m') (by decide)

variable {m m'}

/-- What is gathered is the whole first factor. -/
theorem gath_whole (h : Cut m m') : (gath m : S4096x4096.Idx → EReal) = allX m' := by
  funext i
  have e : gath m i = xOf m (rowDev i) (rowIdx i) := rfl
  rw [e, (h (rowDev i)).1, Layout.block_apply]
  congr 1
  funext a
  apply Fin.ext
  match a with
  | 0 => show (i 0).val / 1024 * 1024 + (i 0).val % 1024 = (i 0).val; omega
  | 1 => rfl

/-- A device's columns of the product are the reference's. -/
theorem prod_whole (h : Cut m m') (c : Dev Cert.KernelIdeal.nD) (j : S4096x2048.Idx) : prod m c j = Ref.refY m' 0 (colOf c j) := by
  have e : Ref.refY m' 0 = Ref.relu (allX m') (allW m') := rfl
  rw [e, Ref.relu_at, prod, gath_whole h]
  congr 1
  refine Finset.sum_congr rfl fun k _ => ?_
  rw [(h c).2, block_col]
  rfl

/-- The product is nowhere negative. -/
theorem refY_nonneg (i : S4096x8192.Idx) : (0 : EReal) ≤ Ref.refY m' 0 i := Ref.relu_nonneg _ _ i

/-- The maximum that a device computes is the reference's. -/
theorem max_whole (h : Cut m m') (c : Dev Cert.KernelIdeal.nD) (z : Cert.ReferenceIdeal.S_.Idx) : gmax m c = Ref.top (Ref.refY m' 0) z := by
  have key : ∀ b : EReal, gmax m c ≤ b ↔ (Ref.top (Ref.refY m' 0) z : EReal) ≤ b := fun b => by
    rw [gmax_le, Ref.top_le _ refY_nonneg]
    refine ⟨fun hb i => ?_, fun hb d j => ?_⟩
    · obtain ⟨d, j, rfl⟩ := of_col i
      rw [← prod_whole h d j]
      exact hb d j
    · rw [prod_whole h d j]
      exact hb _
  exact le_antisymm ((key _).2 le_rfl) ((key _).1 le_rfl)

/-- A device's result is its columns of the reference's. -/
theorem result_whole (h : Cut m m') (c : Dev Cert.KernelIdeal.nD) (z : Cert.ReferenceIdeal.S_.Idx) (j : S4096x2048.Idx) :
    result m c j = Ref.final m' 0 z (colOf c j) := by
  have hg := max_whole h c z
  have hle : prod m c j ≤ gmax m c := (gmax_le m c _).1 le_rfl c j
  have e : Ref.final m' 0 z (colOf c j) = min ((448 : ℝ) : EReal) (max ((-448 : ℝ) : EReal) (Ideal.div (Ref.refY m' 0 (colOf c j)) (Ideal.div (Ref.top (Ref.refY m' 0) z) ((448 : ℝ) : EReal)))) * Ideal.div (Ref.top (Ref.refY m' 0) z) ((448 : ℝ) : EReal) := rfl
  rw [e, ← hg, ← prod_whole h c j, result]
  exact quant_eq _ _ (prod_nonneg m c j) hle

/-- The kernel over the extended reals computes the reference's result. -/
theorem algebraic (hK : Cert.KernelIdeal.Facts) (hR : Cert.ReferenceIdeal.Facts) : Cert.algebraic_KernelIdeal_ReferenceIdeal (hKernelIdeal := hK) (hReferenceIdeal := hR) := by
  intro m g m' g' _ hcut
  have h : Cut m m' := hcut
  let z : Cert.ReferenceIdeal.S_.Idx := fun a => a.elim0
  refine ⟨Ref.final m' 0 z, ?_, ?_⟩
  · refine (θ_run _ _ _).mono (fun r hr c => ⟨?_, (hr.1 c).2⟩) (run_result (F := Ideal) m g)
    rw [(hr.1 c).1, array_result]
    funext j
    exact (result_whole h c z j).trans (block_col c _ j).symm
  · refine (θ_run _ _ _).mono (fun r hr => ⟨?_, (hr 0).2⟩) (Cert.ReferenceIdeal.Value.run_blocks (F := Ideal) m' g')
    exact (hr 0).1.trans (Ref.array_final m' 0 z)

end Cert.Talk

end
-- ==== Proof.lean ====
module

public import proofs.«01_k».proof.Defs
public import proofs.«01_k».proof.Proof.Frames
public import proofs.«01_k».proof.Proof.Algebraic
public import proofs.«01_k».proof.Proof.Gen.ReferenceIdeal.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Talk.frame_kernel, Cert.Talk.frame_ideal, Cert.Talk.frame_reference, trivial,
  Cert.Talk.algebraic _ _⟩

end Cert.Proof

end
